-- ==== Defs.lean ====
def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantRefIdeal (m : (ℓ : Loc Cert.QuantRefIdeal.nD Cert.QuantRefIdeal.τ Cert.QuantRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2)
      ∧ r.2.mem ((c.tc : Thread Cert.Quant.nD Cert.Quant.τ).loc Cert.Quant.main_arg3) = m ((c.tc : Thread Cert.Quant.nD Cert.Quant.τ).loc Cert.Quant.main_arg3)
      ∧ r.2.mem ((c.tc : Thread Cert.Quant.nD Cert.Quant.τ).loc Cert.Quant.main_arg4) = m ((c.tc : Thread Cert.Quant.nD Cert.Quant.τ).loc Cert.Quant.main_arg4)
      ∧ r.2.mem ((c.tc : Thread Cert.Quant.nD Cert.Quant.τ).loc Cert.Quant.main_arg5) = m ((c.tc : Thread Cert.Quant.nD Cert.Quant.τ).loc Cert.Quant.main_arg5))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
      ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3)
      ∧ r.2.mem ((c.tc : Thread Cert.QuantIdeal.nD Cert.QuantIdeal.τ).loc Cert.QuantIdeal.main_arg4) = m ((c.tc : Thread Cert.QuantIdeal.nD Cert.QuantIdeal.τ).loc Cert.QuantIdeal.main_arg4)
      ∧ r.2.mem ((c.tc : Thread Cert.QuantIdeal.nD Cert.QuantIdeal.τ).loc Cert.QuantIdeal.main_arg5) = m ((c.tc : Thread Cert.QuantIdeal.nD Cert.QuantIdeal.τ).loc Cert.QuantIdeal.main_arg5))
      ∧ r.2.sem = fun _ => 0)

def quiescent_QuantRefIdeal [hQuantRefIdeal : Cert.QuantRefIdeal.Facts] : Prop :=
  ∀ (m : (ℓ : Loc Cert.QuantRefIdeal.nD Cert.QuantRefIdeal.τ Cert.QuantRefIdeal.sig) → Buf (Elt Ideal) ℓ) (g : Dev Cert.QuantRefIdeal.nD → PrngReg), Pre_QuantRefIdeal m →
    θ_run (Cert.QuantRefIdeal.defs (F := Ideal)) (onTc (τ := Cert.QuantRefIdeal.τ) (Cert.QuantRefIdeal.main (F := Ideal))) ⟨m, fun _ => 0, g⟩ (fun r => (∀ c : Dev Cert.QuantRefIdeal.nD,
      r.2.mem ((c.tc : Thread Cert.QuantRefIdeal.nD Cert.QuantRefIdeal.τ).loc Cert.QuantRefIdeal.main_arg0) = m ((c.tc : Thread Cert.QuantRefIdeal.nD Cert.QuantRefIdeal.τ).loc Cert.QuantRefIdeal.main_arg0)
      ∧ r.2.mem ((c.tc : Thread Cert.QuantRefIdeal.nD Cert.QuantRefIdeal.τ).loc Cert.QuantRefIdeal.main_arg1) = m ((c.tc : Thread Cert.QuantRefIdeal.nD Cert.QuantRefIdeal.τ).loc Cert.QuantRefIdeal.main_arg1)
      ∧ r.2.mem ((c.tc : Thread Cert.QuantRefIdeal.nD Cert.QuantRefIdeal.τ).loc Cert.QuantRefIdeal.main_arg2) = m ((c.tc : Thread Cert.QuantRefIdeal.nD Cert.QuantRefIdeal.τ).loc Cert.QuantRefIdeal.main_arg2)
      ∧ r.2.mem ((c.tc : Thread Cert.QuantRefIdeal.nD Cert.QuantRefIdeal.τ).loc Cert.QuantRefIdeal.main_arg3) = m ((c.tc : Thread Cert.QuantRefIdeal.nD Cert.QuantRefIdeal.τ).loc Cert.QuantRefIdeal.main_arg3)
      ∧ r.2.mem ((c.tc : Thread Cert.QuantRefIdeal.nD Cert.QuantRefIdeal.τ).loc Cert.QuantRefIdeal.main_arg4) = m ((c.tc : Thread Cert.QuantRefIdeal.nD Cert.QuantRefIdeal.τ).loc Cert.QuantRefIdeal.main_arg4)
      ∧ r.2.mem ((c.tc : Thread Cert.QuantRefIdeal.nD Cert.QuantRefIdeal.τ).loc Cert.QuantRefIdeal.main_arg5) = m ((c.tc : Thread Cert.QuantRefIdeal.nD Cert.QuantRefIdeal.τ).loc Cert.QuantRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5)
      ∧ r.2.mem ((c.tc : Thread Cert.Conv.nD Cert.Conv.τ).loc Cert.Conv.main_arg6) = m ((c.tc : Thread Cert.Conv.nD Cert.Conv.τ).loc Cert.Conv.main_arg6)
      ∧ r.2.mem ((c.tc : Thread Cert.Conv.nD Cert.Conv.τ).loc Cert.Conv.main_arg7) = m ((c.tc : Thread Cert.Conv.nD Cert.Conv.τ).loc Cert.Conv.main_arg7)
      ∧ r.2.mem ((c.tc : Thread Cert.Conv.nD Cert.Conv.τ).loc Cert.Conv.main_arg8) = m ((c.tc : Thread Cert.Conv.nD Cert.Conv.τ).loc Cert.Conv.main_arg8)
      ∧ r.2.mem ((c.tc : Thread Cert.Conv.nD Cert.Conv.τ).loc Cert.Conv.main_arg9) = m ((c.tc : Thread Cert.Conv.nD Cert.Conv.τ).loc Cert.Conv.main_arg9))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
      ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
      ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
      ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
      ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5)
      ∧ r.2.mem ((c.tc : Thread Cert.ConvRefIdeal.nD Cert.ConvRefIdeal.τ).loc Cert.ConvRefIdeal.main_arg6) = m ((c.tc : Thread Cert.ConvRefIdeal.nD Cert.ConvRefIdeal.τ).loc Cert.ConvRefIdeal.main_arg6)
      ∧ r.2.mem ((c.tc : Thread Cert.ConvRefIdeal.nD Cert.ConvRefIdeal.τ).loc Cert.ConvRefIdeal.main_arg7) = m ((c.tc : Thread Cert.ConvRefIdeal.nD Cert.ConvRefIdeal.τ).loc Cert.ConvRefIdeal.main_arg7)
      ∧ r.2.mem ((c.tc : Thread Cert.ConvRefIdeal.nD Cert.ConvRefIdeal.τ).loc Cert.ConvRefIdeal.main_arg8) = m ((c.tc : Thread Cert.ConvRefIdeal.nD Cert.ConvRefIdeal.τ).loc Cert.ConvRefIdeal.main_arg8)
      ∧ r.2.mem ((c.tc : Thread Cert.ConvRefIdeal.nD Cert.ConvRefIdeal.τ).loc Cert.ConvRefIdeal.main_arg9) = m ((c.tc : Thread Cert.ConvRefIdeal.nD Cert.ConvRefIdeal.τ).loc Cert.ConvRefIdeal.main_arg9))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4))
      ∧ r.2.sem = fun _ => 0)

def preserves_Quant_QuantIdeal : Prop :=
  True

def algebraic_QuantIdeal_QuantRefIdeal [hQuantIdeal : Cert.QuantIdeal.Facts] [hQuantRefIdeal : Cert.QuantRefIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantRefIdeal.nD Cert.QuantRefIdeal.τ Cert.QuantRefIdeal.sig) → Buf (Elt Ideal) ℓ) (g' : Dev Cert.QuantRefIdeal.nD → PrngReg), Pre_QuantIdeal m →
    (∀ c : Dev Cert.QuantIdeal.nD,
      m' ((c.tc : Thread Cert.QuantRefIdeal.nD Cert.QuantRefIdeal.τ).loc Cert.QuantRefIdeal.main_arg0) = m ((c.tc : Thread Cert.QuantIdeal.nD Cert.QuantIdeal.τ).loc Cert.QuantIdeal.main_arg0)
      ∧ m' ((c.tc : Thread Cert.QuantRefIdeal.nD Cert.QuantRefIdeal.τ).loc Cert.QuantRefIdeal.main_arg1) = m ((c.tc : Thread Cert.QuantIdeal.nD Cert.QuantIdeal.τ).loc Cert.QuantIdeal.main_arg1)
      ∧ m' ((c.tc : Thread Cert.QuantRefIdeal.nD Cert.QuantRefIdeal.τ).loc Cert.QuantRefIdeal.main_arg2) = m ((c.tc : Thread Cert.QuantIdeal.nD Cert.QuantIdeal.τ).loc Cert.QuantIdeal.main_arg2)
      ∧ m' ((c.tc : Thread Cert.QuantRefIdeal.nD Cert.QuantRefIdeal.τ).loc Cert.QuantRefIdeal.main_arg3) = m ((c.tc : Thread Cert.QuantIdeal.nD Cert.QuantIdeal.τ).loc Cert.QuantIdeal.main_arg3)
      ∧ m' ((c.tc : Thread Cert.QuantRefIdeal.nD Cert.QuantRefIdeal.τ).loc Cert.QuantRefIdeal.main_arg4) = m ((c.tc : Thread Cert.QuantIdeal.nD Cert.QuantIdeal.τ).loc Cert.QuantIdeal.main_arg4)
      ∧ m' ((c.tc : Thread Cert.QuantRefIdeal.nD Cert.QuantRefIdeal.τ).loc Cert.QuantRefIdeal.main_arg5) = m ((c.tc : Thread Cert.QuantIdeal.nD Cert.QuantIdeal.τ).loc Cert.QuantIdeal.main_arg5)) →
    ∃ (v0 : (c : Dev Cert.QuantIdeal.nD) → Buf (Elt Ideal) ((c.tc : Thread Cert.QuantIdeal.nD Cert.QuantIdeal.τ).loc Cert.QuantIdeal.main_v9_0)) (v1 : (c : Dev Cert.QuantIdeal.nD) → Buf (Elt Ideal) ((c.tc : Thread Cert.QuantIdeal.nD Cert.QuantIdeal.τ).loc Cert.QuantIdeal.main_v9_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v9_0) = v0 c
          ∧ r.2.mem ((c.tc : Thread Cert.QuantIdeal.nD Cert.QuantIdeal.τ).loc Cert.QuantIdeal.main_v9_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2)
          ∧ r.2.mem ((c.tc : Thread Cert.QuantIdeal.nD Cert.QuantIdeal.τ).loc Cert.QuantIdeal.main_arg3) = m ((c.tc : Thread Cert.QuantIdeal.nD Cert.QuantIdeal.τ).loc Cert.QuantIdeal.main_arg3)
          ∧ r.2.mem ((c.tc : Thread Cert.QuantIdeal.nD Cert.QuantIdeal.τ).loc Cert.QuantIdeal.main_arg4) = m ((c.tc : Thread Cert.QuantIdeal.nD Cert.QuantIdeal.τ).loc Cert.QuantIdeal.main_arg4)
          ∧ r.2.mem ((c.tc : Thread Cert.QuantIdeal.nD Cert.QuantIdeal.τ).loc Cert.QuantIdeal.main_arg5) = m ((c.tc : Thread Cert.QuantIdeal.nD Cert.QuantIdeal.τ).loc Cert.QuantIdeal.main_arg5))
      ∧ θ_run (Cert.QuantRefIdeal.defs (F := Ideal)) (onTc (τ := Cert.QuantRefIdeal.τ) (Cert.QuantRefIdeal.main (F := Ideal))) ⟨m', fun _ => 0, g'⟩ (fun r => ∀ c : Dev Cert.QuantRefIdeal.nD,
          r.2.mem ((c.tc : Thread Cert.QuantRefIdeal.nD Cert.QuantRefIdeal.τ).loc Cert.QuantRefIdeal.main_v0_0) = v0 c
          ∧ r.2.mem ((c.tc : Thread Cert.QuantRefIdeal.nD Cert.QuantRefIdeal.τ).loc Cert.QuantRefIdeal.main_v0_1) = v1 c
          ∧ r.2.mem ((c.tc : Thread Cert.QuantRefIdeal.nD Cert.QuantRefIdeal.τ).loc Cert.QuantRefIdeal.main_arg0) = m' ((c.tc : Thread Cert.QuantRefIdeal.nD Cert.QuantRefIdeal.τ).loc Cert.QuantRefIdeal.main_arg0)
          ∧ r.2.mem ((c.tc : Thread Cert.QuantRefIdeal.nD Cert.QuantRefIdeal.τ).loc Cert.QuantRefIdeal.main_arg1) = m' ((c.tc : Thread Cert.QuantRefIdeal.nD Cert.QuantRefIdeal.τ).loc Cert.QuantRefIdeal.main_arg1)
          ∧ r.2.mem ((c.tc : Thread Cert.QuantRefIdeal.nD Cert.QuantRefIdeal.τ).loc Cert.QuantRefIdeal.main_arg2) = m' ((c.tc : Thread Cert.QuantRefIdeal.nD Cert.QuantRefIdeal.τ).loc Cert.QuantRefIdeal.main_arg2)
          ∧ r.2.mem ((c.tc : Thread Cert.QuantRefIdeal.nD Cert.QuantRefIdeal.τ).loc Cert.QuantRefIdeal.main_arg3) = m' ((c.tc : Thread Cert.QuantRefIdeal.nD Cert.QuantRefIdeal.τ).loc Cert.QuantRefIdeal.main_arg3)
          ∧ r.2.mem ((c.tc : Thread Cert.QuantRefIdeal.nD Cert.QuantRefIdeal.τ).loc Cert.QuantRefIdeal.main_arg4) = m' ((c.tc : Thread Cert.QuantRefIdeal.nD Cert.QuantRefIdeal.τ).loc Cert.QuantRefIdeal.main_arg4)
          ∧ r.2.mem ((c.tc : Thread Cert.QuantRefIdeal.nD Cert.QuantRefIdeal.τ).loc Cert.QuantRefIdeal.main_arg5) = m' ((c.tc : Thread Cert.QuantRefIdeal.nD Cert.QuantRefIdeal.τ).loc Cert.QuantRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)
      ∧ m' ((c.tc : Thread Cert.ConvRefIdeal.nD Cert.ConvRefIdeal.τ).loc Cert.ConvRefIdeal.main_arg6) = m ((c.tc : Thread Cert.ConvIdeal.nD Cert.ConvIdeal.τ).loc Cert.ConvIdeal.main_arg6)
      ∧ m' ((c.tc : Thread Cert.ConvRefIdeal.nD Cert.ConvRefIdeal.τ).loc Cert.ConvRefIdeal.main_arg7) = m ((c.tc : Thread Cert.ConvIdeal.nD Cert.ConvIdeal.τ).loc Cert.ConvIdeal.main_arg7)
      ∧ m' ((c.tc : Thread Cert.ConvRefIdeal.nD Cert.ConvRefIdeal.τ).loc Cert.ConvRefIdeal.main_arg8) = m ((c.tc : Thread Cert.ConvIdeal.nD Cert.ConvIdeal.τ).loc Cert.ConvIdeal.main_arg8)
      ∧ m' ((c.tc : Thread Cert.ConvRefIdeal.nD Cert.ConvRefIdeal.τ).loc Cert.ConvRefIdeal.main_arg9) = m ((c.tc : Thread Cert.ConvIdeal.nD Cert.ConvIdeal.τ).loc Cert.ConvIdeal.main_arg9)) →
    ∃ (v0 : (c : Dev Cert.ConvIdeal.nD) → Buf (Elt Ideal) ((c.tc : Thread Cert.ConvIdeal.nD Cert.ConvIdeal.τ).loc Cert.ConvIdeal.main_v12_0)) (v1 : (c : Dev Cert.ConvIdeal.nD) → Buf (Elt Ideal) ((c.tc : Thread Cert.ConvIdeal.nD Cert.ConvIdeal.τ).loc Cert.ConvIdeal.main_v12_1)) (v2 : (c : Dev Cert.ConvIdeal.nD) → Buf (Elt Ideal) ((c.tc : Thread Cert.ConvIdeal.nD Cert.ConvIdeal.τ).loc Cert.ConvIdeal.main_v12_2)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v12_0) = v0 c
          ∧ r.2.mem ((c.tc : Thread Cert.ConvIdeal.nD Cert.ConvIdeal.τ).loc Cert.ConvIdeal.main_v12_1) = v1 c
          ∧ r.2.mem ((c.tc : Thread Cert.ConvIdeal.nD Cert.ConvIdeal.τ).loc Cert.ConvIdeal.main_v12_2) = v2 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5)
          ∧ r.2.mem ((c.tc : Thread Cert.ConvIdeal.nD Cert.ConvIdeal.τ).loc Cert.ConvIdeal.main_arg6) = m ((c.tc : Thread Cert.ConvIdeal.nD Cert.ConvIdeal.τ).loc Cert.ConvIdeal.main_arg6)
          ∧ r.2.mem ((c.tc : Thread Cert.ConvIdeal.nD Cert.ConvIdeal.τ).loc Cert.ConvIdeal.main_arg7) = m ((c.tc : Thread Cert.ConvIdeal.nD Cert.ConvIdeal.τ).loc Cert.ConvIdeal.main_arg7)
          ∧ r.2.mem ((c.tc : Thread Cert.ConvIdeal.nD Cert.ConvIdeal.τ).loc Cert.ConvIdeal.main_arg8) = m ((c.tc : Thread Cert.ConvIdeal.nD Cert.ConvIdeal.τ).loc Cert.ConvIdeal.main_arg8)
          ∧ r.2.mem ((c.tc : Thread Cert.ConvIdeal.nD Cert.ConvIdeal.τ).loc Cert.ConvIdeal.main_arg9) = m ((c.tc : Thread Cert.ConvIdeal.nD Cert.ConvIdeal.τ).loc Cert.ConvIdeal.main_arg9))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v0_0) = v0 c
          ∧ r.2.mem ((c.tc : Thread Cert.ConvRefIdeal.nD Cert.ConvRefIdeal.τ).loc Cert.ConvRefIdeal.main_v0_1) = v1 c
          ∧ r.2.mem ((c.tc : Thread Cert.ConvRefIdeal.nD Cert.ConvRefIdeal.τ).loc Cert.ConvRefIdeal.main_v0_2) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5)
          ∧ r.2.mem ((c.tc : Thread Cert.ConvRefIdeal.nD Cert.ConvRefIdeal.τ).loc Cert.ConvRefIdeal.main_arg6) = m' ((c.tc : Thread Cert.ConvRefIdeal.nD Cert.ConvRefIdeal.τ).loc Cert.ConvRefIdeal.main_arg6)
          ∧ r.2.mem ((c.tc : Thread Cert.ConvRefIdeal.nD Cert.ConvRefIdeal.τ).loc Cert.ConvRefIdeal.main_arg7) = m' ((c.tc : Thread Cert.ConvRefIdeal.nD Cert.ConvRefIdeal.τ).loc Cert.ConvRefIdeal.main_arg7)
          ∧ r.2.mem ((c.tc : Thread Cert.ConvRefIdeal.nD Cert.ConvRefIdeal.τ).loc Cert.ConvRefIdeal.main_arg8) = m' ((c.tc : Thread Cert.ConvRefIdeal.nD Cert.ConvRefIdeal.τ).loc Cert.ConvRefIdeal.main_arg8)
          ∧ r.2.mem ((c.tc : Thread Cert.ConvRefIdeal.nD Cert.ConvRefIdeal.τ).loc Cert.ConvRefIdeal.main_arg9) = m' ((c.tc : Thread Cert.ConvRefIdeal.nD Cert.ConvRefIdeal.τ).loc Cert.ConvRefIdeal.main_arg9))

def preserves_Bwd_BwdIdeal : Prop :=
  True

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)) →
    ∃ (v0 : (c : Dev Cert.BwdIdeal.nD) → Buf (Elt Ideal) ((c.tc : Thread Cert.BwdIdeal.nD Cert.BwdIdeal.τ).loc Cert.BwdIdeal.main_v2_0)) (v1 : (c : Dev Cert.BwdIdeal.nD) → Buf (Elt Ideal) ((c.tc : Thread Cert.BwdIdeal.nD Cert.BwdIdeal.τ).loc Cert.BwdIdeal.main_v2_1)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v2_0) = v0 c
          ∧ r.2.mem ((c.tc : Thread Cert.BwdIdeal.nD Cert.BwdIdeal.τ).loc Cert.BwdIdeal.main_v2_1) = v1 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v0_0) = v0 c
          ∧ r.2.mem ((c.tc : Thread Cert.BwdRefIdeal.nD Cert.BwdRefIdeal.τ).loc Cert.BwdRefIdeal.main_v0_1) = v1 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4))

def Claim : Prop :=
  ∃ (hQuant : Cert.Quant.Facts) (hQuantIdeal : Cert.QuantIdeal.Facts) (hQuantRefIdeal : Cert.QuantRefIdeal.Facts) (hConv : Cert.Conv.Facts) (hConvIdeal : Cert.ConvIdeal.Facts) (hConvRefIdeal : Cert.ConvRefIdeal.Facts) (hBwd : Cert.Bwd.Facts) (hBwdIdeal : Cert.BwdIdeal.Facts) (hBwdRefIdeal : Cert.BwdRefIdeal.Facts),
    quiescent_Quant (hQuant := hQuant)
    ∧ quiescent_QuantIdeal (hQuantIdeal := hQuantIdeal)
    ∧ quiescent_QuantRefIdeal (hQuantRefIdeal := hQuantRefIdeal)
    ∧ quiescent_Conv (hConv := hConv)
    ∧ quiescent_ConvIdeal (hConvIdeal := hConvIdeal)
    ∧ quiescent_ConvRefIdeal (hConvRefIdeal := hConvRefIdeal)
    ∧ quiescent_Bwd (hBwd := hBwd)
    ∧ quiescent_BwdIdeal (hBwdIdeal := hBwdIdeal)
    ∧ quiescent_BwdRefIdeal (hBwdRefIdeal := hBwdRefIdeal)
    ∧ preserves_Quant_QuantIdeal
    ∧ algebraic_QuantIdeal_QuantRefIdeal (hQuantIdeal := hQuantIdeal) (hQuantRefIdeal := hQuantRefIdeal)
    ∧ preserves_Conv_ConvIdeal
    ∧ algebraic_ConvIdeal_ConvRefIdeal (hConvIdeal := hConvIdeal) (hConvRefIdeal := hConvRefIdeal)
    ∧ preserves_Bwd_BwdIdeal
    ∧ algebraic_BwdIdeal_BwdRefIdeal (hBwdIdeal := hBwdIdeal) (hBwdRefIdeal := hBwdRefIdeal)
-- ==== Quant.lean ====
abbrev S4x512x1920 : Shape := ⟨3, ![4, 512, 1920]⟩
abbrev S4x512 : Shape := ⟨2, ![4, 512]⟩
abbrev S4x32 : Shape := ⟨2, ![4, 32]⟩
abbrev S1920 : Shape := ⟨1, ![1920]⟩
abbrev S4x4x1x128 : Shape := ⟨4, ![4, 4, 1, 128]⟩
abbrev S4x32x60 : Shape := ⟨3, ![4, 32, 60]⟩
abbrev S4x1920 : Shape := ⟨2, ![4, 1920]⟩
abbrev S4x1x1920 : Shape := ⟨3, ![4, 1, 1920]⟩
abbrev S1x1920 : Shape := ⟨2, ![1, 1920]⟩
abbrev S1x128x1920 : Shape := ⟨3, ![1, 128, 1920]⟩
abbrev S1x1x1x128 : Shape := ⟨4, ![1, 1, 1, 128]⟩
abbrev S1x1x1920 : Shape := ⟨3, ![1, 1, 1920]⟩
abbrev S128x1920 : Shape := ⟨2, ![128, 1920]⟩
abbrev S1x1x128 : Shape := ⟨3, ![1, 1, 128]⟩
abbrev S1x128 : Shape := ⟨2, ![1, 128]⟩
abbrev S8x128 : Shape := ⟨2, ![8, 128]⟩
abbrev S128x8 : Shape := ⟨2, ![128, 8]⟩
abbrev S128x1 : Shape := ⟨2, ![128, 1]⟩
abbrev S128 : Shape := ⟨1, ![128]⟩
abbrev S1x252 : Shape := ⟨2, ![1, 252]⟩
abbrev S128x252 : Shape := ⟨2, ![128, 252]⟩
abbrev S128x128 : Shape := ⟨2, ![128, 128]⟩

abbrev nBuf : Space → Nat
  | .hbm => 17
  | .vmem => 14
  | .smem => 0
  | _ => 0

abbrev bufTy : (tb : Table) → Fin (tcTables nBuf tb) → BufTy
  | .hbm, ⟨0, _⟩ => ⟨S4x512x1920, .i8⟩
  | .hbm, ⟨1, _⟩ => ⟨S4x512, .f32⟩
  | .hbm, ⟨2, _⟩ => ⟨S4x32, .f32⟩
  | .hbm, ⟨3, _⟩ => ⟨S4x32, .f32⟩
  | .hbm, ⟨4, _⟩ => ⟨S1920, .f32⟩
  | .hbm, ⟨5, _⟩ => ⟨S1920, .f32⟩
  | .hbm, ⟨6, _⟩ => ⟨S4x4x1x128, .f32⟩
  | .hbm, ⟨7, _⟩ => ⟨S4x32x60, .f32⟩
  | .hbm, ⟨8, _⟩ => ⟨S4x1920, .f32⟩
  | .hbm, ⟨9, _⟩ => ⟨S4x1x1920, .f32⟩
  | .hbm, ⟨10, _⟩ => ⟨S4x32x60, .f32⟩
  | .hbm, ⟨11, _⟩ => ⟨S4x1920, .f32⟩
  | .hbm, ⟨12, _⟩ => ⟨S4x1x1920, .f32⟩
  | .hbm, ⟨13, _⟩ => ⟨S1x1920, .f32⟩
  | .hbm, ⟨14, _⟩ => ⟨S1x1920, .f32⟩
  | .hbm, ⟨15, _⟩ => ⟨S4x512x1920, .fp8e4m3⟩
  | .hbm, ⟨16, _⟩ => ⟨S4x4x1x128, .f32⟩
  | .local _ .vmem, ⟨0, _⟩ => ⟨S1x128x1920, .i8⟩
  | .local _ .vmem, ⟨1, _⟩ => ⟨S1x128x1920, .i8⟩
  | .local _ .vmem, ⟨2, _⟩ => ⟨S1x1x1x128, .f32⟩
  | .local _ .vmem, ⟨3, _⟩ => ⟨S1x1x1x128, .f32⟩
  | .local _ .vmem, ⟨4, _⟩ => ⟨S1x1x1920, .f32⟩
  | .local _ .vmem, ⟨5, _⟩ => ⟨S1x1x1920, .f32⟩
  | .local _ .vmem, ⟨6, _⟩ => ⟨S1x1x1920, .f32⟩
  | .local _ .vmem, ⟨7, _⟩ => ⟨S1x1x1920, .f32⟩
  | .local _ .vmem, ⟨8, _⟩ => ⟨S1x1920, .f32⟩
  | .local _ .vmem, ⟨9, _⟩ => ⟨S1x1920, .f32⟩
  | .local _ .vmem, ⟨10, _⟩ => ⟨S1x128x1920, .fp8e4m3⟩
  | .local _ .vmem, ⟨11, _⟩ => ⟨S1x128x1920, .fp8e4m3⟩
  | .local _ .vmem, ⟨12, _⟩ => ⟨S1x1x1x128, .f32⟩
  | .local _ .vmem, ⟨13, _⟩ => ⟨S1x1x1x128, .f32⟩
  | _, _ => ⟨S4x512x1920, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x1920 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1920 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QuantRefIdeal.lean ====
abbrev S4x512x1920 : Shape := ⟨3, ![4, 512, 1920]⟩
abbrev S4x512 : Shape := ⟨2, ![4, 512]⟩
abbrev S4x32 : Shape := ⟨2, ![4, 32]⟩
abbrev S1920 : Shape := ⟨1, ![1920]⟩
abbrev S4x4x1x128 : Shape := ⟨4, ![4, 4, 1, 128]⟩
abbrev S4x512x1 : Shape := ⟨3, ![4, 512, 1]⟩
abbrev S4x512x32x60 : Shape := ⟨4, ![4, 512, 32, 60]⟩
abbrev S4x1x32x1 : Shape := ⟨4, ![4, 1, 32, 1]⟩
abbrev S1x1x1920 : Shape := ⟨3, ![1, 1, 1920]⟩

abbrev nBuf : Space → Nat
  | .hbm => 8
  | .vmem => 8
  | .smem => 0
  | _ => 0

abbrev bufTy : (tb : Table) → Fin (tcTables nBuf tb) → BufTy
  | .hbm, ⟨0, _⟩ => ⟨S4x512x1920, .i8⟩
  | .hbm, ⟨1, _⟩ => ⟨S4x512, .f32⟩
  | .hbm, ⟨2, _⟩ => ⟨S4x32, .f32⟩
  | .hbm, ⟨3, _⟩ => ⟨S4x32, .f32⟩
  | .hbm, ⟨4, _⟩ => ⟨S1920, .f32⟩
  | .hbm, ⟨5, _⟩ => ⟨S1920, .f32⟩
  | .hbm, ⟨6, _⟩ => ⟨S4x512x1920, .fp8e4m3⟩
  | .hbm, ⟨7, _⟩ => ⟨S4x4x1x128, .f32⟩
  | .local _ .vmem, ⟨0, _⟩ => ⟨S4x512x1920, .i8⟩
  | .local _ .vmem, ⟨1, _⟩ => ⟨S4x512, .f32⟩
  | .local _ .vmem, ⟨2, _⟩ => ⟨S4x32, .f32⟩
  | .local _ .vmem, ⟨3, _⟩ => ⟨S4x32, .f32⟩
  | .local _ .vmem, ⟨4, _⟩ => ⟨S1920, .f32⟩
  | .local _ .vmem, ⟨5, _⟩ => ⟨S1920, .f32⟩
  | .local _ .vmem, ⟨6, _⟩ => ⟨S4x512x1920, .fp8e4m3⟩
  | .local _ .vmem, ⟨7, _⟩ => ⟨S4x4x1x128, .f32⟩
  | _, _ => ⟨S4x512x1920, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S4x512x1920 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1920 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1920 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x1920 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x4x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Conv.lean ====
abbrev S4x512x1920 : Shape := ⟨3, ![4, 512, 1920]⟩
abbrev S4x512 : Shape := ⟨2, ![4, 512]⟩
abbrev S3x3x1920x640 : Shape := ⟨4, ![3, 3, 1920, 640]⟩
abbrev S640 : Shape := ⟨1, ![640]⟩
abbrev S4x640 : Shape := ⟨2, ![4, 640]⟩
abbrev S4x32 : Shape := ⟨2, ![4, 32]⟩
abbrev S4x4x1x128 : Shape := ⟨4, ![4, 4, 1, 128]⟩
abbrev S1x640 : Shape := ⟨2, ![1, 640]⟩
abbrev S4x1x640 : Shape := ⟨3, ![4, 1, 640]⟩
abbrev S4x32x20 : Shape := ⟨3, ![4, 32, 20]⟩
abbrev S4x512x640 : Shape := ⟨3, ![4, 512, 640]⟩
abbrev S1x512x1920 : Shape := ⟨3, ![1, 512, 1920]⟩
abbrev S1x4x1x128 : Shape := ⟨4, ![1, 4, 1, 128]⟩
abbrev S1x1x640 : Shape := ⟨3, ![1, 1, 640]⟩
abbrev S1x512x640 : Shape := ⟨3, ![1, 512, 640]⟩
abbrev S3x512x640 : Shape := ⟨3, ![3, 512, 640]⟩
abbrev S512x1920 : Shape := ⟨2, ![512, 1920]⟩
abbrev S1x1x1x128 : Shape := ⟨4, ![1, 1, 1, 128]⟩
abbrev S1x128 : Shape := ⟨2, ![1, 128]⟩
abbrev S8x128 : Shape := ⟨2, ![8, 128]⟩
abbrev S128x8 : Shape := ⟨2, ![128, 8]⟩
abbrev S128x1 : Shape := ⟨2, ![128, 1]⟩
abbrev S512x1 : Shape := ⟨2, ![512, 1]⟩
abbrev S1x1x1920x640 : Shape := ⟨4, ![1, 1, 1920, 640]⟩
abbrev S1920x640 : Shape := ⟨2, ![1920, 640]⟩
abbrev S512x640 : Shape := ⟨2, ![512, 640]⟩
abbrev S448x1920 : Shape := ⟨2, ![448, 1920]⟩
abbrev S448x640 : Shape := ⟨2, ![448, 640]⟩
abbrev S1x448x640 : Shape := ⟨3, ![1, 448, 640]⟩
abbrev S512 : Shape := ⟨1, ![512]⟩
abbrev S1x252 : Shape := ⟨2, ![1, 252]⟩
abbrev S512x252 : Shape := ⟨2, ![512, 252]⟩
abbrev S128x128 : Shape := ⟨2, ![128, 128]⟩

abbrev nBuf : Space → Nat
  | .hbm => 25
  | .vmem => 23
  | .smem => 0
  | _ => 0

abbrev bufTy : (tb : Table) → Fin (tcTables nBuf tb) → BufTy
  | .hbm, ⟨0, _⟩ => ⟨S4x512x1920, .fp8e4m3⟩
  | .hbm, ⟨1, _⟩ => ⟨S4x512, .f32⟩
  | .hbm, ⟨2, _⟩ => ⟨S3x3x1920x640, .fp8e4m3⟩
  | .hbm, ⟨3, _⟩ => ⟨S640, .f32⟩
  | .hbm, ⟨4, _⟩ => ⟨S640, .f32⟩
  | .hbm, ⟨5, _⟩ => ⟨S4x640, .f32⟩
  | .hbm, ⟨6, _⟩ => ⟨S4x32, .f32⟩
  | .hbm, ⟨7, _⟩ => ⟨S4x32, .f32⟩
  | .hbm, ⟨8, _⟩ => ⟨S640, .f32⟩
  | .hbm, ⟨9, _⟩ => ⟨S640, .f32⟩
  | .hbm, ⟨10, _⟩ => ⟨S4x4x1x128, .f32⟩
  | .hbm, ⟨11, _⟩ => ⟨S1x640, .f32⟩
  | .hbm, ⟨12, _⟩ => ⟨S1x640, .f32⟩
  | .hbm, ⟨13, _⟩ => ⟨S4x1x640, .f32⟩
  | .hbm, ⟨14, _⟩ => ⟨S4x32x20, .f32⟩
  | .hbm, ⟨15, _⟩ => ⟨S4x640, .f32⟩
  | .hbm, ⟨16, _⟩ => ⟨S4x1x640, .f32⟩
  | .hbm, ⟨17, _⟩ => ⟨S4x32x20, .f32⟩
  | .hbm, ⟨18, _⟩ => ⟨S4x640, .f32⟩
  | .hbm, ⟨19, _⟩ => ⟨S4x1x640, .f32⟩
  | .hbm, ⟨20, _⟩ => ⟨S1x640, .f32⟩
  | .hbm, ⟨21, _⟩ => ⟨S1x640, .f32⟩
  | .hbm, ⟨22, _⟩ => ⟨S4x512x640, .fp8e4m3⟩
  | .hbm, ⟨23, _⟩ => ⟨S4x4x1x128, .f32⟩
  | .hbm, ⟨24, _⟩ => ⟨S4x512x640, .bf16⟩
  | .local _ .vmem, ⟨0, _⟩ => ⟨S1x512x1920, .fp8e4m3⟩
  | .local _ .vmem, ⟨1, _⟩ => ⟨S1x512x1920, .fp8e4m3⟩
  | .local _ .vmem, ⟨2, _⟩ => ⟨S1x4x1x128, .f32⟩
  | .local _ .vmem, ⟨3, _⟩ => ⟨S1x4x1x128, .f32⟩
  | .local _ .vmem, ⟨4, _⟩ => ⟨S3x3x1920x640, .fp8e4m3⟩
  | .local _ .vmem, ⟨5, _⟩ => ⟨S1x640, .f32⟩
  | .local _ .vmem, ⟨6, _⟩ => ⟨S1x640, .f32⟩
  | .local _ .vmem, ⟨7, _⟩ => ⟨S1x1x640, .f32⟩
  | .local _ .vmem, ⟨8, _⟩ => ⟨S1x1x640, .f32⟩
  | .local _ .vmem, ⟨9, _⟩ => ⟨S1x1x640, .f32⟩
  | .local _ .vmem, ⟨10, _⟩ => ⟨S1x1x640, .f32⟩
  | .local _ .vmem, ⟨11, _⟩ => ⟨S1x1x640, .f32⟩
  | .local _ .vmem, ⟨12, _⟩ => ⟨S1x1x640, .f32⟩
  | .local _ .vmem, ⟨13, _⟩ => ⟨S1x640, .f32⟩
  | .local _ .vmem, ⟨14, _⟩ => ⟨S1x640, .f32⟩
  | .local _ .vmem, ⟨15, _⟩ => ⟨S1x512x640, .fp8e4m3⟩
  | .local _ .vmem, ⟨16, _⟩ => ⟨S1x512x640, .fp8e4m3⟩
  | .local _ .vmem, ⟨17, _⟩ => ⟨S1x4x1x128, .f32⟩
  | .local _ .vmem, ⟨18, _⟩ => ⟨S1x4x1x128, .f32⟩
  | .local _ .vmem, ⟨19, _⟩ => ⟨S1x512x640, .bf16⟩
  | .local _ .vmem, ⟨20, _⟩ => ⟨S1x512x640, .bf16⟩
  | .local _ .vmem, ⟨21, _⟩ => ⟨S3x512x640, .f32⟩
  | .local _ .vmem, ⟨22, _⟩ => ⟨S512x1920, .bf16⟩
  | _, _ => ⟨S4x512x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1920 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x3x1920x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x512x640 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ConvRefIdeal.lean ====
abbrev S4x512x1920 : Shape := ⟨3, ![4, 512, 1920]⟩
abbrev S4x512 : Shape := ⟨2, ![4, 512]⟩
abbrev S3x3x1920x640 : Shape := ⟨4, ![3, 3, 1920, 640]⟩
abbrev S640 : Shape := ⟨1, ![640]⟩
abbrev S4x640 : Shape := ⟨2, ![4, 640]⟩
abbrev S4x32 : Shape := ⟨2, ![4, 32]⟩
abbrev S4x512x640 : Shape := ⟨3, ![4, 512, 640]⟩
abbrev S4x4x1x128 : Shape := ⟨4, ![4, 4, 1, 128]⟩
abbrev S4x512x1 : Shape := ⟨3, ![4, 512, 1]⟩
abbrev S4x8x64x1920 : Shape := ⟨4, ![4, 8, 64, 1920]⟩
abbrev S4x1x64x1920 : Shape := ⟨4, ![4, 1, 64, 1920]⟩
abbrev S4x9x64x1920 : Shape := ⟨4, ![4, 9, 64, 1920]⟩
abbrev S4x10x64x1920 : Shape := ⟨4, ![4, 10, 64, 1920]⟩
abbrev S4x10x1x1920 : Shape := ⟨4, ![4, 10, 1, 1920]⟩
abbrev S4x10x65x1920 : Shape := ⟨4, ![4, 10, 65, 1920]⟩
abbrev S4x10x66x1920 : Shape := ⟨4, ![4, 10, 66, 1920]⟩
abbrev S2048x640 : Shape := ⟨2, ![2048, 640]⟩
abbrev S2048x1920 : Shape := ⟨2, ![2048, 1920]⟩
abbrev S1x1x1920x640 : Shape := ⟨4, ![1, 1, 1920, 640]⟩
abbrev S1920x640 : Shape := ⟨2, ![1920, 640]⟩
abbrev S1x1x640 : Shape := ⟨3, ![1, 1, 640]⟩
abbrev S4x1x640 : Shape := ⟨3, ![4, 1, 640]⟩
abbrev S4x512x32x20 : Shape := ⟨4, ![4, 512, 32, 20]⟩
abbrev S4x1x32x1 : Shape := ⟨4, ![4, 1, 32, 1]⟩

abbrev nBuf : Space → Nat
  | .hbm => 13
  | .vmem => 13
  | .smem => 0
  | _ => 0

abbrev bufTy : (tb : Table) → Fin (tcTables nBuf tb) → BufTy
  | .hbm, ⟨0, _⟩ => ⟨S4x512x1920, .fp8e4m3⟩
  | .hbm, ⟨1, _⟩ => ⟨S4x512, .f32⟩
  | .hbm, ⟨2, _⟩ => ⟨S3x3x1920x640, .fp8e4m3⟩
  | .hbm, ⟨3, _⟩ => ⟨S640, .f32⟩
  | .hbm, ⟨4, _⟩ => ⟨S640, .f32⟩
  | .hbm, ⟨5, _⟩ => ⟨S4x640, .f32⟩
  | .hbm, ⟨6, _⟩ => ⟨S4x32, .f32⟩
  | .hbm, ⟨7, _⟩ => ⟨S4x32, .f32⟩
  | .hbm, ⟨8, _⟩ => ⟨S640, .f32⟩
  | .hbm, ⟨9, _⟩ => ⟨S640, .f32⟩
  | .hbm, ⟨10, _⟩ => ⟨S4x512x640, .fp8e4m3⟩
  | .hbm, ⟨11, _⟩ => ⟨S4x4x1x128, .f32⟩
  | .hbm, ⟨12, _⟩ => ⟨S4x512x640, .bf16⟩
  | .local _ .vmem, ⟨0, _⟩ => ⟨S4x512x1920, .fp8e4m3⟩
  | .local _ .vmem, ⟨1, _⟩ => ⟨S4x512, .f32⟩
  | .local _ .vmem, ⟨2, _⟩ => ⟨S3x3x1920x640, .fp8e4m3⟩
  | .local _ .vmem, ⟨3, _⟩ => ⟨S640, .f32⟩
  | .local _ .vmem, ⟨4, _⟩ => ⟨S640, .f32⟩
  | .local _ .vmem, ⟨5, _⟩ => ⟨S4x640, .f32⟩
  | .local _ .vmem, ⟨6, _⟩ => ⟨S4x32, .f32⟩
  | .local _ .vmem, ⟨7, _⟩ => ⟨S4x32, .f32⟩
  | .local _ .vmem, ⟨8, _⟩ => ⟨S640, .f32⟩
  | .local _ .vmem, ⟨9, _⟩ => ⟨S640, .f32⟩
  | .local _ .vmem, ⟨10, _⟩ => ⟨S4x512x640, .fp8e4m3⟩
  | .local _ .vmem, ⟨11, _⟩ => ⟨S4x4x1x128, .f32⟩
  | .local _ .vmem, ⟨12, _⟩ => ⟨S4x512x640, .bf16⟩
  | _, _ => ⟨S4x512x1920, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S4x512x1920 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x3x1920x640 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S640 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S640 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x512x640 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x4x1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x512x640 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Bwd.lean ====
abbrev S4x512x640 : Shape := ⟨3, ![4, 512, 640]⟩
abbrev S4x512 : Shape := ⟨2, ![4, 512]⟩
abbrev S3x3x640x640 : Shape := ⟨4, ![3, 3, 640, 640]⟩
abbrev S640 : Shape := ⟨1, ![640]⟩
abbrev S4x4x1x128 : Shape := ⟨4, ![4, 4, 1, 128]⟩
abbrev S1x640 : Shape := ⟨2, ![1, 640]⟩
abbrev S1x1x640x640 : Shape := ⟨4, ![1, 1, 640, 640]⟩
abbrev S3x4x640x640 : Shape := ⟨4, ![3, 4, 640, 640]⟩
abbrev S512x1 : Shape := ⟨2, ![512, 1]⟩
abbrev S1x1x1x128 : Shape := ⟨4, ![1, 1, 1, 128]⟩
abbrev S1x128 : Shape := ⟨2, ![1, 128]⟩
abbrev S8x128 : Shape := ⟨2, ![8, 128]⟩
abbrev S128x8 : Shape := ⟨2, ![128, 8]⟩
abbrev S128x1 : Shape := ⟨2, ![128, 1]⟩
abbrev S1x512x640 : Shape := ⟨3, ![1, 512, 640]⟩
abbrev S512x640 : Shape := ⟨2, ![512, 640]⟩
abbrev S64x640 : Shape := ⟨2, ![64, 640]⟩
abbrev S1x1x64x640 : Shape := ⟨4, ![1, 1, 64, 640]⟩
abbrev S1x1x512x640 : Shape := ⟨4, ![1, 1, 512, 640]⟩
abbrev S640x640 : Shape := ⟨2, ![640, 640]⟩

abbrev nBuf : Space → Nat
  | .hbm => 9
  | .vmem => 11
  | .smem => 0
  | _ => 0

abbrev bufTy : (tb : Table) → Fin (tcTables nBuf tb) → BufTy
  | .hbm, ⟨0, _⟩ => ⟨S4x512x640, .fp8e5m2⟩
  | .hbm, ⟨1, _⟩ => ⟨S4x512, .f32⟩
  | .hbm, ⟨2, _⟩ => ⟨S4x512x640, .bf16⟩
  | .hbm, ⟨3, _⟩ => ⟨S3x3x640x640, .fp8e4m3⟩
  | .hbm, ⟨4, _⟩ => ⟨S640, .f32⟩
  | .hbm, ⟨5, _⟩ => ⟨S4x4x1x128, .f32⟩
  | .hbm, ⟨6, _⟩ => ⟨S1x640, .f32⟩
  | .hbm, ⟨7, _⟩ => ⟨S3x3x640x640, .f32⟩
  | .hbm, ⟨8, _⟩ => ⟨S4x512x640, .bf16⟩
  | .local _ .vmem, ⟨0, _⟩ => ⟨S4x512x640, .fp8e5m2⟩
  | .local _ .vmem, ⟨1, _⟩ => ⟨S4x4x1x128, .f32⟩
  | .local _ .vmem, ⟨2, _⟩ => ⟨S4x512x640, .bf16⟩
  | .local _ .vmem, ⟨3, _⟩ => ⟨S1x1x640x640, .fp8e4m3⟩
  | .local _ .vmem, ⟨4, _⟩ => ⟨S1x1x640x640, .fp8e4m3⟩
  | .local _ .vmem, ⟨5, _⟩ => ⟨S1x640, .f32⟩
  | .local _ .vmem, ⟨6, _⟩ => ⟨S1x1x640x640, .f32⟩
  | .local _ .vmem, ⟨7, _⟩ => ⟨S1x1x640x640, .f32⟩
  | .local _ .vmem, ⟨8, _⟩ => ⟨S4x512x640, .bf16⟩
  | .local _ .vmem, ⟨9, _⟩ => ⟨S3x4x640x640, .bf16⟩
  | .local _ .vmem, ⟨10, _⟩ => ⟨S4x512x640, .f32⟩
  | _, _ => ⟨S4x512x640, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![9], ![false]⟩

def k0_mult1 (i : grid0.Coords) : BitVec 32 :=
  let c2_i32 : BitVec 32 := 2#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let v30 : BitVec 32 := Scalar.subi c2_i32 v16
  let c64_i32 : BitVec 32 := 64#32
  let v31 : BitVec 32 := Scalar.muli v30 c64_i32
  v31
def k0_off1 (i : grid0.Coords) : Fin 4 → Nat :=
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v41 : Index := Scalar.indexCast v26
  let c0_17 : Index := 0#32
  let c2_i32 : BitVec 32 := 2#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let v30 : BitVec 32 := Scalar.subi c2_i32 v16
  let c64_i32 : BitVec 32 := 64#32
  let v31 : BitVec 32 := Scalar.muli v30 c64_i32
  let v32 : BitVec 32 := v31
  let v42 : Index := Scalar.indexCast v32
  let c0_18 : Index := 0#32
  ![v41.toNat, 0, v42.toNat, 0]
def k0_off2 (i : grid0.Coords) : Fin 4 → Nat :=
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v58 : Index := Scalar.indexCast v26
  let c1 : Index := 1#32
  let c2_i32 : BitVec 32 := 2#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let v30 : BitVec 32 := Scalar.subi c2_i32 v16
  let c64_i32 : BitVec 32 := 64#32
  let v31 : BitVec 32 := Scalar.muli v30 c64_i32
  let v32 : BitVec 32 := v31
  let v59 : Index := Scalar.indexCast v32
  let c0_33 : Index := 0#32
  ![v58.toNat, 1, v59.toNat, 0]
def k0_off3 (i : grid0.Coords) : Fin 4 → Nat :=
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v78 : Index := Scalar.indexCast v26
  let c2 : Index := 2#32
  let c2_i32 : BitVec 32 := 2#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let v30 : BitVec 32 := Scalar.subi c2_i32 v16
  let c64_i32 : BitVec 32 := 64#32
  let v31 : BitVec 32 := Scalar.muli v30 c64_i32
  let v32 : BitVec 32 := v31
  let v79 : Index := Scalar.indexCast v32
  let c0_53 : Index := 0#32
  ![v78.toNat, 2, v79.toNat, 0]
def k0_off4 (i : grid0.Coords) : Fin 4 → Nat :=
  let arg0 : BitVec 32 := BitVec.ofNat 32 (i 0).val
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let v98 : Index := Scalar.indexCast v26
  let c3 : Index := 3#32
  let c2_i32 : BitVec 32 := 2#32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c3_i32 : BitVec 32 := 3#32
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let v0 : BitVec 32 := Scalar.divsi arg0 c3_i32
  let c1_i32 : BitVec 32 := 1#32
  let v15 : BitVec 32 := Scalar.subi v0 c1_i32
  let v16 : BitVec 32 := Scalar.select v14 v15 v0
  let v30 : BitVec 32 := Scalar.subi c2_i32 v16
  let c64_i32 : BitVec 32 := 64#32
  let v31 : BitVec 32 := Scalar.muli v30 c64_i32
  let v32 : BitVec 32 := v31
  let v99 : Index := Scalar.indexCast v32
  let c0_73 : Index := 0#32
  ![v98.toNat, 3, v99.toNat, 0]
def k0_cond2 (i : grid0.Coords) : BitVec 1 :=
  let arg0 : BitVec 32 := BitVec.ofNat 32 (i 0).val
  let c8_i32 : BitVec 32 := 8#32
  let v118 : BitVec 1 := Scalar.cmpi .eq arg0 c8_i32
  let v119 : BitVec 32 := Scalar.extui v118
  let c0_i32_93 : BitVec 32 := 0#32
  let v120 : BitVec 1 := Scalar.cmpi .ne v119 c0_i32_93
  v120

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x512x640 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x4x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x640x640 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x640x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== BwdRefIdeal.lean ====
abbrev S4x512x640 : Shape := ⟨3, ![4, 512, 640]⟩
abbrev S4x512 : Shape := ⟨2, ![4, 512]⟩
abbrev S3x3x640x640 : Shape := ⟨4, ![3, 3, 640, 640]⟩
abbrev S640 : Shape := ⟨1, ![640]⟩
abbrev S4x512x1 : Shape := ⟨3, ![4, 512, 1]⟩
abbrev S4x8x64x640 : Shape := ⟨4, ![4, 8, 64, 640]⟩
abbrev S1x1x1x640 : Shape := ⟨4, ![1, 1, 1, 640]⟩
abbrev S4x1x64x640 : Shape := ⟨4, ![4, 1, 64, 640]⟩
abbrev S4x9x64x640 : Shape := ⟨4, ![4, 9, 64, 640]⟩
abbrev S4x10x64x640 : Shape := ⟨4, ![4, 10, 64, 640]⟩
abbrev S4x10x1x640 : Shape := ⟨4, ![4, 10, 1, 640]⟩
abbrev S4x10x65x640 : Shape := ⟨4, ![4, 10, 65, 640]⟩
abbrev S4x10x66x640 : Shape := ⟨4, ![4, 10, 66, 640]⟩
abbrev S2048x640 : Shape := ⟨2, ![2048, 640]⟩
abbrev S640x640 : Shape := ⟨2, ![640, 640]⟩
abbrev S1x1x640x640 : Shape := ⟨4, ![1, 1, 640, 640]⟩

abbrev nBuf : Space → Nat
  | .hbm => 7
  | .vmem => 7
  | .smem => 0
  | _ => 0

abbrev bufTy : (tb : Table) → Fin (tcTables nBuf tb) → BufTy
  | .hbm, ⟨0, _⟩ => ⟨S4x512x640, .fp8e5m2⟩
  | .hbm, ⟨1, _⟩ => ⟨S4x512, .f32⟩
  | .hbm, ⟨2, _⟩ => ⟨S4x512x640, .bf16⟩
  | .hbm, ⟨3, _⟩ => ⟨S3x3x640x640, .fp8e4m3⟩
  | .hbm, ⟨4, _⟩ => ⟨S640, .f32⟩
  | .hbm, ⟨5, _⟩ => ⟨S3x3x640x640, .f32⟩
  | .hbm, ⟨6, _⟩ => ⟨S4x512x640, .bf16⟩
  | .local _ .vmem, ⟨0, _⟩ => ⟨S4x512x640, .fp8e5m2⟩
  | .local _ .vmem, ⟨1, _⟩ => ⟨S4x512, .f32⟩
  | .local _ .vmem, ⟨2, _⟩ => ⟨S4x512x640, .bf16⟩
  | .local _ .vmem, ⟨3, _⟩ => ⟨S3x3x640x640, .fp8e4m3⟩
  | .local _ .vmem, ⟨4, _⟩ => ⟨S640, .f32⟩
  | .local _ .vmem, ⟨5, _⟩ => ⟨S3x3x640x640, .f32⟩
  | .local _ .vmem, ⟨6, _⟩ => ⟨S4x512x640, .bf16⟩
  | _, _ => ⟨S4x512x640, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x512x640 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x3x640x640 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S640 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x640x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x512x640 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.QuantRefRun.lean ====
/-
  The reference quantiser's run, read: each result array as one function of the argument arrays (`run`).
  The reference is one grid point over whole arrays, so each window's block is its array, and the body's single store per
  result leaves its payload there.
-/
module

public import proofs.«01_k».proof.Proof.Gen.QuantRefIdeal.Frame
public import Idealize.ShloMosaic.Lib.Pipeline.Value

@[expose] public section

noncomputable section

namespace Cert.QuantRefIdeal.RunValue

open Cert.QuantRefIdeal Cert.QuantRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S4x512x1920.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S4x4x1x128.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x512x1920.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 512 + 1 * (j 1).val = (j 1).val; omega
  | ⟨2, _⟩ => show win0_0.index t (2 : Fin 3) * 1920 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S4x512.Idx) : ((cfg0.win 1).blk t).view.emb j = j := by
  obtain ⟨e0, e1⟩ := idx_zero1 t
  funext a; apply Fin.ext
  match a with
  | ⟨0, _⟩ => show win0_1.index t (0 : Fin 2) * 4 + 1 * (j 0).val = (j 0).val; omega
  | ⟨1, _⟩ => show win0_1.index t (1 : Fin 2) * 512 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S4x32.Idx) : ((cfg0.win 2).blk t).view.emb j = j := by
  obtain ⟨e0, e1⟩ := idx_zero2 t
  funext a; apply Fin.ext
  match a with
  | ⟨0, _⟩ => show win0_2.index t (0 : Fin 2) * 4 + 1 * (j 0).val = (j 0).val; omega
  | ⟨1, _⟩ => show win0_2.index t (1 : Fin 2) * 32 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S4x32.Idx) : ((cfg0.win 3).blk t).view.emb j = j := by
  obtain ⟨e0, e1⟩ := idx_zero3 t
  funext a; apply Fin.ext
  match a with
  | ⟨0, _⟩ => show win0_3.index t (0 : Fin 2) * 4 + 1 * (j 0).val = (j 0).val; omega
  | ⟨1, _⟩ => show win0_3.index t (1 : Fin 2) * 32 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S1920.Idx) : ((cfg0.win 4).blk t).view.emb j = j := by
  have e0 := idx_zero4 t
  funext a; apply Fin.ext
  match a with
  | ⟨0, _⟩ => show win0_4.index t (0 : Fin 1) * 1920 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S1920.Idx) : ((cfg0.win 5).blk t).view.emb j = j := by
  have e0 := idx_zero5 t
  funext a; apply Fin.ext
  match a with
  | ⟨0, _⟩ => show win0_5.index t (0 : Fin 1) * 1920 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x512x1920.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 512 + 1 * (j 1).val = (j 1).val; omega
  | ⟨2, _⟩ => show win0_6.index t (2 : Fin 3) * 1920 + 1 * (j 2).val = (j 2).val; omega

theorem hz7 : (![0, 0, 0, 0] : Fin 4 → Nat) = fun _ => 0 := funext fun a => by fin_cases a <;> rfl

/-- Window 7's block index at the one point is zero on every axis. -/
theorem idx_zero7 : ∀ t : Fin cfg0.N, win0_7.index t (0 : Fin 4) = 0 ∧ win0_7.index t (1 : Fin 4) = 0 ∧ win0_7.index t (2 : Fin 4) = 0 ∧ win0_7.index t (3 : Fin 4) = 0 :=
  (by decide +kernel : ∀ t : Fin grid0.N, _)

/-- An index of window 7's block is the same index of its array. -/
theorem emb7 (t : Fin cfg0.N) (j : S4x4x1x128.Idx) : ((cfg0.win 7).blk t).view.emb j = j := by
  obtain ⟨e0, e1, e2, e3⟩ := idx_zero7 t
  funext a; apply Fin.ext
  match a with
  | ⟨0, _⟩ => show win0_7.index t (0 : Fin 4) * 4 + 1 * (j 0).val = (j 0).val; omega
  | ⟨1, _⟩ => show win0_7.index t (1 : Fin 4) * 4 + 1 * (j 1).val = (j 1).val; omega
  | ⟨2, _⟩ => show win0_7.index t (2 : Fin 4) * 1 + 1 * (j 2).val = (j 2).val; omega
  | ⟨3, _⟩ => show win0_7.index t (3 : Fin 4) * 128 + 1 * (j 3).val = (j 3).val; omega

/-! ### Output window 6: the array after the run -/

/-- What the window's array ends holding: `out0_6` applied to the argument arrays in place of the input blocks (a value that the
    frame states apart, `kK_payN a…`, keeps its loads inside its own definition). -/
abbrev G6 (a0 : Vec F S4x512x1920 .i8) (a1 : Vec F S4x512 .f32) (a2 : Vec F S4x32 .f32) (a3 : Vec F S4x32 .f32) (a4 : Vec F S1920 .f32) (a5 : Vec F S1920 .f32) : Vec F S4x512x1920 .fp8e4m3 :=
  k0_pay2 (k0_pay4 a0 a1 a2 a3 a4 a5) (k0_pay9 a0 a1 a2 a3 a4 a5) (k0_pay10 a0 a1 a2 a3 a4 a5) (k0_pay11 a0 a1 a2 a3 a4 a5)

/-- A load of the whole of a block reads the block, and the one store through the whole rectangle leaves its payload. -/
theorem out6_eq (a0 : Vec F S4x512x1920 .i8) (a1 : Vec F S4x512 .f32) (a2 : Vec F S4x32 .f32) (a3 : Vec F S4x32 .f32) (a4 : Vec F S1920 .f32) (a5 : Vec F S1920 .f32) : out0_6 (F := F) a0 a1 a2 a3 a4 a5 = G6 a0 a1 a2 a3 a4 a5 := by
  unfold out0_6
  rw [View.canon_unit_zero hz6, View.ld_unit_zero (S := S4x512x1920) hz0 _ a0, View.ld_unit_zero (S := S4x512) hz1 _ a1, View.ld_unit_zero (S := S4x32) hz2 _ a2, View.ld_unit_zero (S := S4x32) hz3 _ a3, View.ld_unit_zero (S := S1920) hz4 _ a4, View.ld_unit_zero (S := S1920) hz5 _ a5]

/-- Cutting the point's block out of `X` and reading `X` through the block's view give the same. -/
theorem cut6_eq (t : Fin cfg0.N) (X : Vec F S4x512x1920 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S4x512x1920.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S4x512x1920 .i8) (a1 : Vec F S4x512 .f32) (a2 : Vec F S4x32 .f32) (a3 : Vec F S4x32 .f32) (a4 : Vec F S1920 .f32) (a5 : Vec F S1920 .f32) : Vec F S4x4x1x128 .f32 :=
  k0_pay3 (k0_pay9 a0 a1 a2 a3 a4 a5) (k0_pay10 a0 a1 a2 a3 a4 a5) (k0_pay11 a0 a1 a2 a3 a4 a5)

/-- The one store through the whole rectangle leaves its payload. -/
theorem out7_eq (a0 : Vec F S4x512x1920 .i8) (a1 : Vec F S4x512 .f32) (a2 : Vec F S4x32 .f32) (a3 : Vec F S4x32 .f32) (a4 : Vec F S1920 .f32) (a5 : Vec F S1920 .f32) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S4x4x1x128 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S4x4x1x128.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      kept_main_arg0 m r h c,
      kept_main_arg1 m r h c,
      kept_main_arg2 m r h c,
      kept_main_arg3 m r h c,
      kept_main_arg4 m r h c,
      kept_main_arg5 m r h c⟩)
    (run_main m ρ)

end Cert.QuantRefIdeal.RunValue

end
-- ==== Proof.Quantiser.lean ====
/-
  The power-of-two quantiser, at the extended reals.

  Both programs give a pixel of largest magnitude `a` the exponent `e` with `2^(e-1) ≤ a/448 < 2^e`, kept between -126
  and 126 (`0` for an all-zero pixel), the scale `2^e` and the factor `2^(-e)` its values are multiplied by.
  The kernel counts the powers of two below `a/448`, and writes `2^e`, `2^(-e)` as bit patterns; the reference takes the
  floor of a logarithm and an exponential. This module proves that the two agree (`kernel_scale`, `kernel_inv`), and that
  the two spellings of `z · sigmoid(z)` agree (`silu_eq`).
-/
module

public import Idealize.ShloMosaic.Lib.Pointwise
public import Idealize.ShloMosaic.Lib.WordSum

@[expose] public section

set_option maxRecDepth 16384

noncomputable section

namespace Cert.Quantiser

open Idealize.ShloMosaic

/-! ## The two spellings of SiLU -/

/-- `0 - x` is `-x`. -/
theorem zero_sub_eq (x : EReal) : (0 : EReal) - x = -x := by rw [sub_eq_add_neg, zero_add]

/-- `exp` is never negative. -/
theorem exp_nonneg (x : EReal) : 0 ≤ Ideal.exp x := by
  induction x with
  | bot => exact le_rfl
  | top => exact le_top
  | coe r => exact EReal.coe_nonneg.2 (Real.exp_pos r).le

/-- `1 + exp x` is not zero. -/
theorem one_add_exp_ne (x : EReal) : (1 : EReal) + Ideal.exp x ≠ 0 := by
  have h : (0 : EReal) < 1 + Ideal.exp x :=
    lt_of_lt_of_le zero_lt_one (le_add_of_nonneg_right (exp_nonneg x))
  exact h.ne'

/-- `z / (1 + exp(-z))` is `z · logistic(z)`. -/
theorem silu_eq (z : EReal) : Ideal.div z (1 + Ideal.exp (0 - z)) = z * Ideal.logistic z := by
  unfold Ideal.logistic Ideal.div
  rw [zero_sub_eq, if_neg (one_add_exp_ne _), if_neg (one_add_exp_ne _), one_mul]

/-! ## Bit patterns of powers of two -/

/-- The pattern with exponent field `n` and no significand bits is `2^(n-127)`, for `1 ≤ n ≤ 254`. -/
theorem ofBits_pow (n : Nat) (h1 : 1 ≤ n) (h2 : n ≤ 254) :
    Ideal.ofBits .f32 (BitVec.ofNat 32 (n * 2 ^ 23)) = (((2 : ℝ) ^ ((n : ℤ) - 127) : ℝ) : EReal) := by
  have key : ∀ n : Fin 255, (BitVec.ofNat 32 (n.val * 2 ^ 23)).extractLsb' 31 1 = 0#1
      ∧ ((BitVec.ofNat 32 (n.val * 2 ^ 23)).extractLsb' 23 8).toNat = n.val
      ∧ ((BitVec.ofNat 32 (n.val * 2 ^ 23)).extractLsb' 0 23).toNat = 0 := by decide +kernel
  obtain ⟨k1, k2, k3⟩ := key ⟨n, by omega⟩
  simp only at k1 k2 k3
  show Ideal.ieee 8 23 _ = _
  unfold Ideal.ieee
  simp only [Nat.reduceAdd, k1, k2, k3]
  rw [if_neg (by omega), if_neg (by omega)]
  congr 1
  have : (2 : ℝ) ^ ((n : ℤ) - (2 ^ (8 - 1) - 1) - 23) = (2 : ℝ) ^ ((n : ℤ) - 127) * (2 : ℝ) ^ (-23 : ℤ) := by
    rw [← zpow_add₀ (by norm_num)]; congr 1
  norm_num at this ⊢
  rw [this]; ring

/-- A word shifted left by 23 places, for a value below 256. -/
theorem shl23 (n : Nat) (x : BitVec 32) (hx : x = BitVec.ofNat 32 n) :
    IntOp.shli .vector x 23#32 = BitVec.ofNat 32 (n * 2 ^ 23) := by
  subst hx
  show BitVec.ofNat 32 n <<< (23 : Nat) = _
  rw [BitVec.shiftLeft_eq_mul_twoPow]
  apply BitVec.eq_of_toNat_eq
  simp [BitVec.toNat_mul, BitVec.toNat_ofNat, Nat.shiftLeft_eq, Nat.mul_mod]

/-! ## The count of the powers of two below a value -/

/-- The words the kernel adds up for a value `t`: the `k`-th is one when `t` reaches the `k`-th power of two. -/
abbrev mark (t : EReal) (k : Fin 252) : BitVec 32 :=
  BitVec.setWidth 32 (BitVec.ofBool (decide (Ideal.ofBits .f32
    (IntOp.shli .vector (IntOp.addi (BitVec.ofNat 32 k.val) 1#32) 23#32) ≤ t)))

/-- The count the kernel forms. -/
abbrev field (t : EReal) : BitVec 32 := Finset.fold IntOp.addi (0#32) (mark t) Finset.univ

/-- The exponent the reference forms. -/
abbrev expo (a t : EReal) : EReal :=
  if a = 0 then 0
  else min (Ideal.ofBits .f32 0x42FC0000#32) (max (Ideal.ofBits .f32 0xC2FC0000#32)
    (Ideal.liftRound Int.floor (Ideal.div (Ideal.log t) (Ideal.log (Ideal.ofBits .f32 0x40000000#32))) + 1))

/-- The exponent the kernel forms, as a word. -/
abbrev word (a t : EReal) : BitVec 32 := if a = 0 then 0#32 else IntOp.subi (field t) 126#32

theorem ofBits_126 : Ideal.ofBits .f32 0x42FC0000#32 = ((126 : ℝ) : EReal) := by
  simp [Ideal.ofBits, Ideal.ieee, -EReal.coe_mul]; norm_num
theorem ofBits_neg126 : Ideal.ofBits .f32 0xC2FC0000#32 = ((-126 : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num
theorem ofBits_negInf : Ideal.ofBits .f32 0xFF800000#32 = ⊥ := by
  simp [Ideal.ofBits, Ideal.ieee]

/-- One word is one exactly where the value reaches the power of two. -/
theorem mark_toNat (t : EReal) (k : Fin 252) :
    (mark t k).toNat = if (((2 : ℝ) ^ ((k.val : ℤ) - 126) : ℝ) : EReal) ≤ t then 1 else 0 := by
  have h : IntOp.addi (BitVec.ofNat 32 k.val) 1#32 = BitVec.ofNat 32 (k.val + 1) := by
    show BitVec.ofNat 32 k.val + 1#32 = _
    rw [← BitVec.ofNat_add]
  unfold mark
  rw [shl23 _ _ h, ofBits_pow _ (by omega) (by omega),
    show (((k.val + 1 : ℕ) : ℤ) - 127) = (k.val : ℤ) - 126 by push_cast; ring]
  split_ifs with hk <;> simp [hk]

/-- The count is the number of the powers of two, from `2^(-126)` to `2^125`, that do not exceed the value. -/
theorem field_toNat (t : EReal) :
    (field t).toNat = (Finset.univ.filter fun k : Fin 252 => (((2 : ℝ) ^ ((k.val : ℤ) - 126) : ℝ) : EReal) ≤ t).card := by
  have hs : field t = ∑ k : Fin 252, mark t k := by
    unfold field
    rw [Finset.sum_eq_fold]; rfl
  have hsum : ∑ k : Fin 252, (mark t k).toNat
      = (Finset.univ.filter fun k : Fin 252 => (((2 : ℝ) ^ ((k.val : ℤ) - 126) : ℝ) : EReal) ≤ t).card := by
    rw [Finset.card_filter]
    exact Finset.sum_congr rfl fun k _ => mark_toNat t k
  rw [hs, WordSum.toNat_sum _ _ ?_, hsum]
  rw [hsum]
  refine lt_of_le_of_lt (Finset.card_le_univ _) ?_
  simp

/-- Below an integer `F`, the indices `k` with `k - 126 ≤ F` are `clamp (F + 127)` many. -/
theorem card_le (F : ℤ) :
    ((Finset.univ.filter fun k : Fin 252 => (k.val : ℤ) - 126 ≤ F).card : ℤ) = min 252 (max 0 (F + 127)) := by
  have : (Finset.univ.filter fun k : Fin 252 => (k.val : ℤ) - 126 ≤ F)
      = Finset.univ.filter fun k : Fin 252 => k.val < (min 252 (max 0 (F + 127))).toNat := by
    ext k; simp only [Finset.mem_filter, Finset.mem_univ, true_and]
    have := k.isLt; omega
  rw [this, Fin.card_filter_val_lt]
  omega

/-- At a positive real value the count is the clamped floor of its binary logarithm. -/
theorem field_real (r : ℝ) (hr : 0 < r) :
    ((field (r : EReal)).toNat : ℤ) = min 252 (max 0 (⌊Real.log r / Real.log 2⌋ + 127)) := by
  rw [field_toNat, ← card_le]
  congr 2
  ext k
  simp only [Finset.mem_filter, Finset.mem_univ, true_and]
  rw [EReal.coe_le_coe_iff, Int.le_floor, le_div_iff₀ (Real.log_pos (by norm_num))]
  rw [← Real.log_zpow, Real.log_le_log_iff (by positivity) hr]

/-- At `⊤` every power counts. -/
theorem field_top : (field ⊤).toNat = 252 := by
  rw [field_toNat]
  simp

/-! ## The exponent, as an integer -/

/-- The exponent both programs form for a nonzero pixel. -/
abbrev intExpo (t : EReal) : ℤ := (field t).toNat - 126

theorem field_le (t : EReal) : (field t).toNat ≤ 252 := by
  rw [field_toNat]
  exact (Finset.card_le_univ _).trans (by simp)

/-- The reference's clamped exponent is the integer the kernel's count gives. -/
theorem expo_eq (a t : EReal) (ha : a ≠ 0) (ht : 0 < t) : expo a t = ((intExpo t : ℝ) : EReal) := by
  unfold expo
  rw [if_neg ha, ofBits_126, ofBits_neg126, ofBits_two]
  have hl2 : (0 : ℝ) < Real.log 2 := Real.log_pos (by norm_num)
  have hlog2 : Ideal.log ((2 : ℝ) : EReal) = ((Real.log 2 : ℝ) : EReal) := by
    show (if (2 : ℝ) ≤ 0 then ⊥ else ((Real.log 2 : ℝ) : EReal)) = _
    rw [if_neg (by norm_num)]
  have hne : ((Real.log 2 : ℝ) : EReal) ≠ 0 := by
    simpa using hl2.ne'
  induction t with
  | bot => simp at ht
  | top =>
    have h1 : Ideal.div (Ideal.log ⊤) (Ideal.log ((2 : ℝ) : EReal)) = ⊤ := by
      rw [hlog2]; unfold Ideal.div
      rw [if_neg hne, ← EReal.coe_inv]
      exact EReal.top_mul_coe_of_pos (by positivity)
    rw [h1]
    show min _ (max _ ((⊤ : EReal) + 1)) = _
    have h2 : (⊤ : EReal) + 1 = ⊤ := EReal.top_add_of_ne_bot (EReal.coe_ne_bot 1)
    rw [h2, max_eq_right le_top, min_eq_left le_top]
    unfold intExpo
    rw [field_top]
    norm_num
  | coe r =>
    have hr : 0 < r := by simpa using ht
    have h1 : Ideal.div (Ideal.log (r : EReal)) (Ideal.log ((2 : ℝ) : EReal)) = ((Real.log r / Real.log 2 : ℝ) : EReal) := by
      rw [hlog2]; unfold Ideal.div
      rw [if_neg hne, ← EReal.coe_inv]
      show (if r ≤ 0 then ⊥ else ((Real.log r : ℝ) : EReal)) * _ = _
      rw [if_neg (not_le.2 hr), ← EReal.coe_mul, div_eq_mul_inv]
    rw [h1]
    show min _ (max _ (((⌊Real.log r / Real.log 2⌋ : ℝ) : EReal) + 1)) = _
    have h3 : (((⌊Real.log r / Real.log 2⌋ : ℝ) : EReal) + 1)
        = (((⌊Real.log r / Real.log 2⌋ + 1 : ℤ) : ℝ) : EReal) := by
      push_cast; rfl
    rw [h3]
    have h4 : intExpo (r : EReal) = min 126 (max (-126) (⌊Real.log r / Real.log 2⌋ + 1)) := by
      unfold intExpo
      rw [field_real r hr]
      omega
    rw [h4]
    have e1 : ((126 : ℝ) : EReal) = (((126 : ℤ) : ℝ) : EReal) := by norm_num
    have e2 : ((-126 : ℝ) : EReal) = (((-126 : ℤ) : ℝ) : EReal) := by norm_num
    rw [e1, e2]
    have mono : Monotone fun z : ℤ => ((z : ℝ) : EReal) := fun x y h => by
      simpa using h
    rw [mono.map_min, mono.map_max]

/-! ## Scale and factor -/

/-- `exp2` at an integer. -/
theorem exp2_int (z : ℤ) : Ideal.exp2 (((z : ℝ)) : EReal) = (((2 : ℝ) ^ z : ℝ) : EReal) := by
  show ((Real.rpow 2 z : ℝ) : EReal) = _
  rw [← Real.rpow_intCast]; rfl

/-- The kernel's scale pattern is the reference's `2^e`. -/
theorem kernel_scale (a t : EReal) (h : a ≠ 0 → 0 < t) :
    Ideal.ofBits .f32 (IntOp.shli .vector (IntOp.addi 127#32 (word a t)) 23#32) = Ideal.exp2 (expo a t) := by
  by_cases ha : a = 0
  · unfold word expo
    rw [if_pos ha, if_pos ha]
    rw [shl23 127 (IntOp.addi 127#32 0#32) (by decide), ofBits_pow 127 (by omega) (by omega)]
    have := exp2_int 0
    simp at this
    simp [this]
  · rw [expo_eq a t ha (h ha), exp2_int]
    have hf := field_le t
    unfold word intExpo
    generalize field t = w at hf ⊢
    rw [if_neg ha, shl23 (w.toNat + 1), ofBits_pow _ (by omega) (by omega)]
    · congr 2
      push_cast; ring
    · show 127#32 + (w - 126#32) = _
      apply BitVec.eq_of_toNat_eq
      simp only [BitVec.toNat_add, BitVec.toNat_sub, BitVec.toNat_ofNat]
      omega

/-- The kernel's factor pattern is the reference's `2^(-e)`. -/
theorem kernel_inv (a t : EReal) (h : a ≠ 0 → 0 < t) :
    Ideal.ofBits .f32 (IntOp.shli .vector (IntOp.subi 127#32 (word a t)) 23#32) = Ideal.exp2 (0 - expo a t) := by
  by_cases ha : a = 0
  · unfold word expo
    rw [if_pos ha, if_pos ha]
    rw [shl23 127 (IntOp.subi 127#32 0#32) (by decide), ofBits_pow 127 (by omega) (by omega)]
    have := exp2_int 0
    simp at this
    simp [this]
  · rw [expo_eq a t ha (h ha), zero_sub_eq, ← EReal.coe_neg, ← Int.cast_neg, exp2_int]
    have hf := field_le t
    unfold word intExpo
    generalize field t = w at hf ⊢
    rw [if_neg ha, shl23 (253 - w.toNat), ofBits_pow _ (by omega) (by omega)]
    · congr 2
      rw [Nat.cast_sub (by omega)]
      push_cast; ring
    · show 127#32 - (w - 126#32) = _
      apply BitVec.eq_of_toNat_eq
      simp only [BitVec.toNat_sub, BitVec.toNat_ofNat]
      omega

/-! ## The largest magnitude of a pixel -/

/-- The largest magnitude of a pixel of `n` channels, as both programs form it. -/
abbrev largest {n : Nat} (f : Fin n → EReal) : EReal :=
  Finset.fold max (Ideal.ofBits .f32 0xFF800000#32) (fun k => FloatOps.absf (F := Ideal) (φ := .f32) (f k)) Finset.univ

/-- A magnitude is not negative. -/
theorem abs_nonneg (x : EReal) : 0 ≤ FloatOps.absf (F := Ideal) (φ := .f32) x := by
  show (0 : EReal) ≤ max x (-x)
  rcases le_total 0 x with h | h
  · exact le_max_of_le_left h
  · exact le_max_of_le_right (EReal.neg_nonneg.2 h)

/-- The largest magnitude is not negative. -/
theorem largest_nonneg {n : Nat} [NeZero n] (f : Fin n → EReal) : 0 ≤ largest f := by
  rw [Finset.le_fold_max]
  exact Or.inr ⟨0, Finset.mem_univ _, abs_nonneg _⟩

theorem ofBits_inv448_pos : ∃ r : ℝ, 0 < r ∧ Ideal.ofBits .f32 0x3B124925#32 = (r : EReal) := by
  refine ⟨_, ?_, by simp [Ideal.ofBits, Ideal.ieee, -EReal.coe_mul]; rfl⟩
  positivity

/-- A nonzero largest magnitude over 448 is positive. -/
theorem scaled_pos {n : Nat} [NeZero n] (f : Fin n → EReal) (h : largest f ≠ 0) :
    0 < largest f * Ideal.ofBits .f32 0x3B124925#32 := by
  obtain ⟨r, hr, e⟩ := ofBits_inv448_pos
  rw [e]
  exact EReal.mul_pos (lt_of_le_of_ne (largest_nonneg f) (Ne.symm h)) (by simpa using hr)

end Cert.Quantiser

end
-- ==== Proof.QuantRef.lean ====
/-
  The reference quantiser call, read at an index: the activation it forms, the exponent of each pixel, its codes and scales.
-/
module

public import proofs.«01_k».proof.Proof.Gen.QuantIdeal.Value
public import proofs.«01_k».proof.Proof.Gen.QuantRefIdeal.Frame
public import proofs.«01_k».proof.Proof.Quantiser
public import Idealize.ShloMosaic.Lib.Pointwise
public import Idealize.ShloMosaic.Lib.Pipeline.ValueKit

@[expose] public section

set_option maxRecDepth 16384

noncomputable section
namespace Cert.Quant1
open Idealize.ShloMosaic Idealize.ShloMosaic.TcCoe Cert.Quantiser

section Ref
open Cert.QuantRefIdeal Cert.QuantRefIdeal.Gen
variable (x : Vec Ideal S4x512x1920 .i8) (s : Vec Ideal S4x512 .f32) (mu rs : Vec Ideal S4x32 .f32) (ga be : Vec Ideal S1920 .f32)

/-- The normalised input before the activation. -/
abbrev zz (b : Fin 4) (r : Fin 512) (k : Fin 1920) : EReal :=
  (FloatOps.sitofp (F := Ideal) FTy.f32 (x (ix3 b r k)) * s (ix2 b r) - mu (ix2 b ⟨k.val / 60, by omega⟩)) * rs (ix2 b ⟨k.val / 60, by omega⟩) * ga (ix1 k) + be (ix1 k)

abbrev act (b : Fin 4) (r : Fin 512) (k : Fin 1920) : EReal := zz x s mu rs ga be b r k * Ideal.logistic (zz x s mu rs ga be b r k)

theorem ref_act (b : Fin 4) (r : Fin 512) (k : Fin 1920) : k0_pay4 x s mu rs ga be (ix3 b r k) = act x s mu rs ga be b r k := by
  pointwise [k0_pay4]

theorem ref_max (b : Fin 4) (r : Fin 512) : k0_pay5 x s mu rs ga be (ix2 b r) = largest (act x s mu rs ga be b r) := by
  refine Eq.trans (b := largest fun k => k0_pay4 x s mu rs ga be (ix3 b r k)) ?_ (by simp only [ref_act])
  pointwise [k0_pay5]

theorem zero_form (A : FVec Ideal S4x512 .f32) (i : S4x512.Idx) :
    cmpf .oeq A (broadcast S4x512 (Scalar.ofBits .f32 0x00000000#32 : Ideal .f32)) i = if A i = 0 then 1#1 else 0#1 := by
  show BitVec.ofBool (decide (A i = Ideal.ofBits .f32 0x00000000#32)) = _
  rw [Ideal.ofBits_zero_f32]
  split_ifs with h <;> simp [h]

theorem ref_zero (b : Fin 4) (r : Fin 512) : k0_pay6 x s mu rs ga be (ix2 b r) = if largest (act x s mu rs ga be b r) = 0 then 1#1 else 0#1 := by
  rw [← ref_max]
  unfold k0_pay6
  exact zero_form _ _

theorem exp_form (A : FVec Ideal S4x512 .f32) (i : S4x512.Idx) :
   maximumf (broadcast S4x512 (FloatOps.ofBits (F := Ideal) FTy.f32 3271294976#32))
      (addf
        (floor
          (divf (log (mulf A (broadcast S4x512 (FloatOps.ofBits FTy.f32 991054117#32))))
            (log (broadcast S4x512 (FloatOps.ofBits FTy.f32 1073741824#32)))))
        (broadcast S4x512 (FloatOps.ofBits FTy.f32 1065353216#32))) i =
    max (Ideal.ofBits .f32 0xC2FC0000#32)
    (Ideal.liftRound Int.floor (Ideal.div (Ideal.log (A i * Ideal.ofBits .f32 0x3B124925#32)) (Ideal.log (Ideal.ofBits .f32 0x40000000#32))) + 1) := by
  rw [← Ideal.ofBits_one_f32]
  rfl

theorem ref_exp (b : Fin 4) (r : Fin 512) : k0_pay7 x s mu rs ga be (ix2 b r) = max (Ideal.ofBits .f32 0xC2FC0000#32)
    (Ideal.liftRound Int.floor (Ideal.div (Ideal.log (largest (act x s mu rs ga be b r) * Ideal.ofBits .f32 0x3B124925#32)) (Ideal.log (Ideal.ofBits .f32 0x40000000#32))) + 1) := by
  rw [← ref_max]
  unfold k0_pay7
  exact exp_form _ _

theorem codes_form (v : FVec Ideal S4x512x1920 .f32) (p : IVec S4x512 1) (q : FVec Ideal S4x512 .f32) (b : Fin 4) (r : Fin 512) (k : Fin 1920) :
    k0_pay2 v p q (k0_pay8 (F := Ideal)) (ix3 b r k) = min (Ideal.ofBits .f32 0x43E00000#32) (max (Ideal.ofBits .f32 0xC3E00000#32)
        (v (ix3 b r k) * Ideal.exp2 (0 - Scalar.select (p (ix2 b r)) 0 (min (Ideal.ofBits .f32 0x42FC0000#32) (q (ix2 b r)))))) := by
  pointwise [k0_pay2, k0_pay1, k0_pay8]
  rfl
theorem scale_form (p : IVec S4x512 1) (q : FVec Ideal S4x512 .f32) (b i : Fin 4) (l : Fin 128) :
    k0_pay3 p q (k0_pay8 (F := Ideal)) (ix4 b i (0 : Fin 1) l) = Ideal.exp2 (Scalar.select (p (ix2 b ⟨i.val * 128 + l.val, by omega⟩)) 0
      (min (Ideal.ofBits .f32 0x42FC0000#32) (q (ix2 b ⟨i.val * 128 + l.val, by omega⟩)))) := by
  pointwise [k0_pay3, k0_pay1, k0_pay8]
  rfl

/-- The exponent of pixel `r` of image `b`. -/
abbrev pixelExpo (b : Fin 4) (r : Fin 512) : EReal :=
  expo (largest (act x s mu rs ga be b r)) (largest (act x s mu rs ga be b r) * Ideal.ofBits .f32 0x3B124925#32)

theorem select_expo (a t : EReal) : (Scalar.select (if a = 0 then 1#1 else 0#1) (0 : EReal) (min (Ideal.ofBits .f32 0x42FC0000#32) (max (Ideal.ofBits .f32 0xC2FC0000#32)
    (Ideal.liftRound Int.floor (Ideal.div (Ideal.log t) (Ideal.log (Ideal.ofBits .f32 0x40000000#32))) + 1)))) = expo a t := by
  unfold expo
  split_ifs <;> rfl

theorem ref_codes (b : Fin 4) (r : Fin 512) (k : Fin 1920) :
    k0_pay2 (k0_pay4 x s mu rs ga be) (k0_pay6 x s mu rs ga be) (k0_pay7 x s mu rs ga be) (k0_pay8 (F := Ideal)) (ix3 b r k)
      = min (Ideal.ofBits .f32 0x43E00000#32) (max (Ideal.ofBits .f32 0xC3E00000#32)
        (act x s mu rs ga be b r k * Ideal.exp2 (0 - pixelExpo x s mu rs ga be b r))) := by
  rw [codes_form, ref_act, ref_zero, ref_exp, select_expo]
theorem ref_scale (b i : Fin 4) (l : Fin 128) :
    k0_pay3 (k0_pay6 x s mu rs ga be) (k0_pay7 x s mu rs ga be) (k0_pay8 (F := Ideal)) (ix4 b i (0 : Fin 1) l)
      = Ideal.exp2 (pixelExpo x s mu rs ga be b ⟨i.val * 128 + l.val, by omega⟩) := by
  rw [scale_form, ref_zero, ref_exp, select_expo]
end Ref
end Cert.Quant1
-- ==== Proof.QuantFinal.lean ====
/-
  The quantising kernel's final arrays: its payloads read at an index, its blocks read from the argument arrays, and both output
  windows ending with the reference's codes and scales.
-/
module

public import proofs.«01_k».proof.Proof.QuantRef

@[expose] public section

set_option maxRecDepth 16384

noncomputable section

namespace Cert.Quant1
open Idealize.ShloMosaic Idealize.ShloMosaic.TcCoe Cert.Quantiser
section Ker
open Cert.QuantIdeal Cert.QuantIdeal.Gen

theorem ker_act (v0 : Vec Ideal S1x128x1920 .i8) (v5 : Vec Ideal S1x1x128 .f32) (v13 v17 : Vec Ideal S1x1x1920 .f32) (v21 v25 : Vec Ideal S1x1920 .f32) (r : Fin 128) (k : Fin 1920) :
    k0_pay2 v0 v5 v13 v17 v21 v25 (ix2 r k)
      = ((FloatOps.sitofp (F := Ideal) FTy.f32 (v0 (ix3 (0 : Fin 1) r k)) * v5 (ix3 (0 : Fin 1) (0 : Fin 1) r) - v13 (ix3 (0 : Fin 1) (0 : Fin 1) k)) * v17 (ix3 (0 : Fin 1) (0 : Fin 1) k) * v21 (ix2 (0 : Fin 1) k) + v25 (ix2 (0 : Fin 1) k))
       * Ideal.logistic ((FloatOps.sitofp (F := Ideal) FTy.f32 (v0 (ix3 (0 : Fin 1) r k)) * v5 (ix3 (0 : Fin 1) (0 : Fin 1) r) - v13 (ix3 (0 : Fin 1) (0 : Fin 1) k)) * v17 (ix3 (0 : Fin 1) (0 : Fin 1) k) * v21 (ix2 (0 : Fin 1) k) + v25 (ix2 (0 : Fin 1) k)) := by
  rw [← silu_eq]
  pointwise [k0_pay2]

theorem ker_word (X : FVec Ideal S128x1920 .f32) (r : Fin 128) :
    k0_pay4 X (ix2 r (0 : Fin 1)) = word (Finset.fold max (Ideal.ofBits .f32 0xFF800000#32) (fun k => X (ix2 r k)) Finset.univ)
     (Finset.fold max (Ideal.ofBits .f32 0xFF800000#32) (fun k => X (ix2 r k)) Finset.univ * Ideal.ofBits .f32 0x3B124925#32) := by
  pointwise [k0_pay4]

theorem ker_scale (X : FVec Ideal S128x1920 .f32) (l : Fin 128) :
    k0_pay1 (k0_pay5 X) (ix3 (0 : Fin 1) (0 : Fin 1) l) = Ideal.ofBits .f32 (IntOp.shli .vector (IntOp.addi 127#32 (k0_pay4 X (ix2 l (0 : Fin 1)))) 23#32) := by
  pointwise [k0_pay1, k0_pay5]

theorem ker_codes (v : FVec Ideal S128x1920 .f32) (X : FVec Ideal S128x1920 .f32) (z : Fin 1) (r : Fin 128) (k : Fin 1920) :
    k0_pay6 v X (ix3 z r k) = min (Ideal.ofBits .f32 0x43E00000#32) (max (Ideal.ofBits .f32 0xC3E00000#32)
        (v (ix2 r k) * Ideal.ofBits .f32 (IntOp.shli .vector (IntOp.subi 127#32 (k0_pay4 X (ix2 r (0 : Fin 1)))) 23#32))) := by
  pointwise [k0_pay6]

variable (m : (ℓ : Loc nD τ sig) → Buf (Elt Ideal) ℓ)

/-- Row 0 of a leading unit axis: a load through it reads the block at the same trailing coordinates. -/
theorem load_at0 (M : Memref sig .tc .vmem S1x1x1x128 .f32) (h : M.IsWhole) (X : Vec Ideal S1x1x1x128 .f32)
    (h0 : (![1, 1, 1, 128] : Fin 4 → ℕ) 0 = 1) (hs : ∀ i : Fin 3, (![1, 1, 1, 128] : Fin 4 → ℕ) i.succ = (![1, 1, 128] : Fin 3 → ℕ) i) (hu)
    (hR : S1x1x128.numel = ((Rect.unit (s := S1x1x128) ![0, 0, 0] ![1, 1, 128] inb_S1x1x128_S1x1x128_0_0_0).consLift ![1, 1, 1, 128] h0 hs).shape.numel) (r : Fin 128) :
    (LoadRect.valAlong (lr := (Rect.unit (s := S1x1x128) ![0, 0, 0] ![1, 1, 128] inb_S1x1x128_S1x1x128_0_0_0).toLoadRect) hR
      (View.readAt (Elt Ideal) M.view
            ((Rect.unit (s := S1x1x1x128) ![0, 0, 0, 0] ![1, 1, 1, 128] inb_S1x1x1x128_S1x1x1x128_0_0_0_0).withinL
              ((Rect.unit (s := S1x1x128) ![0, 0, 0] ![1, 1, 128] inb_S1x1x128_S1x1x128_0_0_0).consLift ![1, 1, 1, 128] h0 hs).toLoadRect hu)
            (h.unread X))) (ix3 (0 : Fin 1) (0 : Fin 1) r) = X (ix4 (0 : Fin 1) (0 : Fin 1) (0 : Fin 1) r) := by
  show M.view.read (Elt Ideal) (h.unread X) _ = _
  rw [h.read_unread]
  congr 1
  funext a
  apply Fin.ext
  have hy := fun i => Rect.reshapeEquiv_consLift_succ (Rect.unit (s := S1x1x128) ![0, 0, 0] ![1, 1, 128] inb_S1x1x128_S1x1x128_0_0_0) ![1, 1, 1, 128] h0 hs (Shape.reshapeEquiv hR (ix3 (0 : Fin 1) (0 : Fin 1) r)) i
  have e := (Shape.reshapeEquiv hR).symm_apply_apply (ix3 (0 : Fin 1) (0 : Fin 1) r)
  rw [Shape.reshapeEquiv_symm] at e
  rw [e] at hy
  generalize hz : Shape.reshapeEquiv hR (ix3 (0 : Fin 1) (0 : Fin 1) r) = z at hy ⊢
  have z0 : (z 0).val < 1 := (z 0).isLt
  have z1 : (z 1).val = 0 := hy 0
  have z2 : (z 2).val = 0 := hy 1
  have z3 : (z 3).val = r.val := hy 2
  match a with
  | ⟨0, _⟩ => show 0 + 0 + 1 * (z 0).val = 0; omega
  | ⟨1, _⟩ => show 0 + 0 + 1 * (z 1).val = 0; omega
  | ⟨2, _⟩ => show 0 + 0 + 1 * (z 2).val = 0; omega
  | ⟨3, _⟩ => show 0 + 0 + 1 * (z 3).val = r.val; omega

section Core
variable (x : Vec Ideal S4x512x1920 .i8) (s : Vec Ideal S4x512 .f32) (mu rs : Vec Ideal S4x32 .f32) (ga be : Vec Ideal S1920 .f32)
  (v0 : Vec Ideal S1x128x1920 .i8) (v5 : Vec Ideal S1x1x128 .f32) (v13 v17 : Vec Ideal S1x1x1920 .f32) (v21 v25 : Vec Ideal S1x1920 .f32)
  (b : Fin 4) (r : Fin 512) (q : Fin 128)
  (h0 : ∀ k, v0 (ix3 (0 : Fin 1) q k) = x (ix3 b r k)) (h5 : v5 (ix3 (0 : Fin 1) (0 : Fin 1) q) = s (ix2 b r))
  (h13 : ∀ k : Fin 1920, v13 (ix3 (0 : Fin 1) (0 : Fin 1) k) = mu (ix2 b ⟨k.val / 60, by omega⟩))
  (h17 : ∀ k : Fin 1920, v17 (ix3 (0 : Fin 1) (0 : Fin 1) k) = rs (ix2 b ⟨k.val / 60, by omega⟩))
  (h21 : ∀ k : Fin 1920, v21 (ix2 (0 : Fin 1) k) = ga (ix1 k)) (h25 : ∀ k : Fin 1920, v25 (ix2 (0 : Fin 1) k) = be (ix1 k))
include h0 h5 h13 h17 h21 h25

theorem core_act (k : Fin 1920) : k0_pay2 v0 v5 v13 v17 v21 v25 (ix2 q k) = act x s mu rs ga be b r k := by
  rw [ker_act, h0, h5, h13, h17, h21, h25]

theorem core_word : k0_pay4 (k0_pay3 v0 v5 v13 v17 v21 v25) (ix2 q (0 : Fin 1))
    = word (largest (act x s mu rs ga be b r)) (largest (act x s mu rs ga be b r) * Ideal.ofBits .f32 0x3B124925#32) := by
  rw [ker_word]
  have h : (fun k => k0_pay3 v0 v5 v13 v17 v21 v25 (ix2 q k))
      = fun k => FloatOps.absf (F := Ideal) (φ := .f32) (act x s mu rs ga be b r k) :=
    funext fun k => congrArg (FloatOps.absf (F := Ideal) (φ := .f32)) (core_act x s mu rs ga be v0 v5 v13 v17 v21 v25 b r q h0 h5 h13 h17 h21 h25 k)
  rw [h]

theorem core_codes (z : Fin 1) (k : Fin 1920) : k0_pay6 (k0_pay2 v0 v5 v13 v17 v21 v25) (k0_pay3 v0 v5 v13 v17 v21 v25) (ix3 z q k)
    = min (Ideal.ofBits .f32 0x43E00000#32) (max (Ideal.ofBits .f32 0xC3E00000#32)
        (act x s mu rs ga be b r k * Ideal.exp2 (0 - pixelExpo x s mu rs ga be b r))) := by
  rw [ker_codes, core_act x s mu rs ga be v0 v5 v13 v17 v21 v25 b r q h0 h5 h13 h17 h21 h25,
    core_word x s mu rs ga be v0 v5 v13 v17 v21 v25 b r q h0 h5 h13 h17 h21 h25, kernel_inv _ _ (scaled_pos _)]

theorem core_scale : k0_pay1 (k0_pay5 (k0_pay3 v0 v5 v13 v17 v21 v25)) (ix3 (0 : Fin 1) (0 : Fin 1) q)
    = Ideal.exp2 (pixelExpo x s mu rs ga be b r) := by
  rw [ker_scale, core_word x s mu rs ga be v0 v5 v13 v17 v21 v25 b r q h0 h5 h13 h17 h21 h25, kernel_scale _ _ (scaled_pos _)]
end Core

/-- The block each window holds at a point of the grid: point `t` is image `t / 4`, tile `t % 4`. -/
theorem idx : ∀ t : Fin cfg0.N, win0_0.index t = ![t.val / 4, t.val % 4, 0] ∧ win0_1.index t = ![t.val / 4, t.val % 4, 0, 0]
    ∧ win0_2.index t = ![t.val / 4, 0, 0] ∧ win0_3.index t = ![t.val / 4, 0, 0] ∧ win0_4.index t = ![0, 0] ∧ win0_5.index t = ![0, 0]
    ∧ win0_6.index t = ![t.val / 4, t.val % 4, 0] ∧ win0_7.index t = ![t.val / 4, t.val % 4, 0, 0] :=
  (by decide +kernel : ∀ t : Fin grid0.N, _)

abbrev A0 (c : Dev nD) : Vec Ideal S4x512x1920 .i8 := m ((c : Thread nD τ).loc main_arg0)
abbrev A1 (c : Dev nD) : Vec Ideal S4x512 .f32 := m ((c : Thread nD τ).loc main_arg1)
abbrev A2 (c : Dev nD) : Vec Ideal S4x32 .f32 := m ((c : Thread nD τ).loc main_arg2)
abbrev A3 (c : Dev nD) : Vec Ideal S4x32 .f32 := m ((c : Thread nD τ).loc main_arg3)
abbrev A4 (c : Dev nD) : Vec Ideal S1920 .f32 := m ((c : Thread nD τ).loc main_arg4)
abbrev A5 (c : Dev nD) : Vec Ideal S1920 .f32 := m ((c : Thread nD τ).loc main_arg5)

theorem blk2 (c : Dev nD) (t : Fin cfg0.N) (b : Fin 4) (hb : (b : ℕ) = t.val / 4) (k : Fin 1920) :
    iblk m c 2 t (ix3 (0 : Fin 1) (0 : Fin 1) k) = A2 m c (ix2 b ⟨k.val / 60, by omega⟩) := by
  blk_simp [iblk]
  entry_read
  pointwise []
  blk_point [idx t]
theorem blk1 (c : Dev nD) (t : Fin cfg0.N) (b : Fin 4) (r : Fin 512) (q : Fin 128) (hb : (b : ℕ) = t.val / 4) (hr : (r : ℕ) = t.val % 4 * 128 + q) :
    iblk m c 1 t (ix4 (0 : Fin 1) (0 : Fin 1) (0 : Fin 1) q) = A1 m c (ix2 b r) := by
  blk_simp [iblk]
  entry_read
  pointwise []
  blk_point [idx t]
theorem blk0 (c : Dev nD) (t : Fin cfg0.N) (b : Fin 4) (r : Fin 512) (q : Fin 128) (hb : (b : ℕ) = t.val / 4) (hr : (r : ℕ) = t.val % 4 * 128 + q) (k : Fin 1920) :
    iblk m c 0 t (ix3 (0 : Fin 1) q k) = A0 m c (ix3 b r k) := by
  blk_point [iblk, V, idx t]
theorem blk4 (c : Dev nD) (t : Fin cfg0.N) (k : Fin 1920) :
    iblk m c 4 t (ix2 (0 : Fin 1) k) = A4 m c (ix1 k) := by
  blk_simp [iblk]
  entry_read
  pointwise []
  blk_point [idx t]
theorem blk3 (c : Dev nD) (t : Fin cfg0.N) (b : Fin 4) (hb : (b : ℕ) = t.val / 4) (k : Fin 1920) :
    iblk m c 3 t (ix3 (0 : Fin 1) (0 : Fin 1) k) = A3 m c (ix2 b ⟨k.val / 60, by omega⟩) := by
  blk_simp [iblk]
  entry_read
  pointwise []
  blk_point [idx t]
theorem blk5 (c : Dev nD) (t : Fin cfg0.N) (k : Fin 1920) :
    iblk m c 5 t (ix2 (0 : Fin 1) k) = A5 m c (ix1 k) := by
  blk_simp [iblk]
  entry_read
  pointwise []
  blk_point [idx t]

/-- The reference's codes of the argument arrays. -/
abbrev Codes (c : Dev nD) : Vec Ideal S4x512x1920 .fp8e4m3 :=
  Cert.QuantRefIdeal.Gen.k0_pay2 (F := Ideal) (Cert.QuantRefIdeal.Gen.k0_pay4 (A0 m c) (A1 m c) (A2 m c) (A3 m c) (A4 m c) (A5 m c))
    (Cert.QuantRefIdeal.Gen.k0_pay6 (A0 m c) (A1 m c) (A2 m c) (A3 m c) (A4 m c) (A5 m c))
    (Cert.QuantRefIdeal.Gen.k0_pay7 (A0 m c) (A1 m c) (A2 m c) (A3 m c) (A4 m c) (A5 m c)) Cert.QuantRefIdeal.Gen.k0_pay8
/-- The reference's scales of the argument arrays. -/
abbrev Scales (c : Dev nD) : Vec Ideal S4x4x1x128 .f32 :=
  Cert.QuantRefIdeal.Gen.k0_pay3 (F := Ideal)
    (Cert.QuantRefIdeal.Gen.k0_pay6 (A0 m c) (A1 m c) (A2 m c) (A3 m c) (A4 m c) (A5 m c))
    (Cert.QuantRefIdeal.Gen.k0_pay7 (A0 m c) (A1 m c) (A2 m c) (A3 m c) (A4 m c) (A5 m c)) Cert.QuantRefIdeal.Gen.k0_pay8

theorem point6 (c : Dev nD) (t : Fin cfg0.N) (y : S1x128x1920.Idx) (j : S4x512x1920.Idx)
    (h0 : (j 0 : ℕ) = t.val / 4 + y 0) (h1 : (j 1 : ℕ) = t.val % 4 * 128 + y 1) (h2 : (j 2 : ℕ) = y 2) :
    (dats m 0 c).after 6 t y = Codes m c j := by
  rw [after0_6]; unfold outsAt0
  frame_out
  idx_vars y
  idx_vars j
  have h0' : (j0 : ℕ) = t.val / 4 := by have : (y0 : ℕ) < 1 := y0.isLt; have : (j0 : ℕ) = t.val / 4 + y0 := h0; omega
  obtain rfl : j2 = y2 := Fin.ext h2
  refine (core_codes (A0 m c) (A1 m c) (A2 m c) (A3 m c) (A4 m c) (A5 m c) _ _ _ _ _ _ j0 j1 y1
    (blk0 m c t j0 j1 y1 h0' h1) ?_ (blk2 m c t j0 h0') (blk3 m c t j0 h0') (blk4 m c t) (blk5 m c t) y0 j2).trans
    (ref_codes (A0 m c) (A1 m c) (A2 m c) (A3 m c) (A4 m c) (A5 m c) j0 j1 j2).symm
  exact (load_at0 _ _ _ (by decide) (by decide) _ _ _).trans (blk1 m c t j0 j1 y1 h0' h1)

theorem point7 (c : Dev nD) (t : Fin cfg0.N) (y : S1x1x1x128.Idx) (j : S4x4x1x128.Idx)
    (h0 : (j 0 : ℕ) = t.val / 4 + y 0) (h1 : (j 1 : ℕ) = t.val % 4 + y 1) (h3 : (j 3 : ℕ) = y 3) :
    (dats m 0 c).after 7 t y = Scales m c j := by
  rw [after0_7]; unfold outsAt0
  frame_out
  canon_tiles x h
  have hx3 : (x 3).val = (y 3).val := by rw [← h]; show _ = 0 + 0 + 1 * (x 3).val; omega
  refine (Rect.payAlong_consLift _ _ _ _ _ _ x (ix3 (0 : Fin 1) (0 : Fin 1) (x 3)) ?_).trans ?_
  · intro i
    match i with
    | ⟨0, _⟩ => have : (x 1).val < 1 := (x 1).isLt; show 0 = (x 1).val; omega
    | ⟨1, _⟩ => have : (x 2).val < 1 := (x 2).isLt; show 0 = (x 2).val; omega
    | ⟨2, _⟩ => rfl
  have y0 : (y 0 : ℕ) < 1 := (y 0).isLt
  have y1 : (y 1 : ℕ) < 1 := (y 1).isLt
  obtain ⟨q, hq⟩ : ∃ q : Fin 128, x 3 = q := ⟨_, rfl⟩
  rw [hq]
  have hq' : (q : ℕ) = (y 3 : ℕ) := by rw [← hq]; exact hx3
  idx_vars j
  have h0' : (j0 : ℕ) = t.val / 4 := by have : (j0 : ℕ) = t.val / 4 + y 0 := h0; omega
  have h1' : (j1 : ℕ) = t.val % 4 := by have : (j1 : ℕ) = t.val % 4 + y 1 := h1; omega
  obtain rfl : j3 = q := Fin.ext (h3.trans hq'.symm)
  have l1 : (j1 : ℕ) < 4 := j1.isLt
  have l3 : (j3 : ℕ) < 128 := j3.isLt
  obtain rfl : j2 = 0 := Subsingleton.elim _ _
  have hr : ((⟨j1.val * 128 + j3.val, by omega⟩ : Fin 512) : ℕ) = t.val % 4 * 128 + j3.val := by show j1.val * 128 + j3.val = _; omega
  refine (core_scale (A0 m c) (A1 m c) (A2 m c) (A3 m c) (A4 m c) (A5 m c) _ _ _ _ _ _ j0 ⟨j1.val * 128 + j3.val, by omega⟩ j3
    (blk0 m c t j0 _ j3 h0' hr) ?_ (blk2 m c t j0 h0') (blk3 m c t j0 h0') (blk4 m c t) (blk5 m c t)).trans
    (ref_scale (A0 m c) (A1 m c) (A2 m c) (A3 m c) (A4 m c) (A5 m c) j0 j1 j3).symm
  exact (load_at0 _ _ _ (by decide) (by decide) _ _ _).trans (blk1 m c t j0 _ j3 h0' hr)

theorem final6 (c : Dev nD) : (dats m 0 c).arrAt 6 (cfgs 0).N = Codes m c := by
  refine (dats m 0 c).arrAt_eq_of_covers 6 _ (by decide +kernel) fun t _ y => ?_
  blk_simp
  refine point6 m c t y _ ?_ ?_ ?_
  all_goals (blk_simp [idx t] <;> try omega)

theorem final7 (c : Dev nD) : (dats m 0 c).arrAt 7 (cfgs 0).N = Scales m c := by
  refine (dats m 0 c).arrAt_eq_of_covers 7 _ (by decide +kernel) fun t _ y => ?_
  blk_simp
  refine point7 m c t y _ ?_ ?_ ?_
  all_goals (blk_simp [idx t] <;> try omega)
end Ker
end Cert.Quant1
-- ==== Proof.ConvSum.lean ====
/-
  The convolution kernel's accumulators, read at an index: what each product payload adds, what a partial product leaves where
  its rows miss, and the three column sums over the window's rows.
-/
module

public import proofs.«01_k».proof.Proof.Gen.ConvIdeal.Value
public import proofs.«01_k».proof.Proof.Gen.ConvRefIdeal.Value
public import proofs.«01_k».proof.Proof.Quantiser
public import Idealize.ShloMosaic.Lib.Pointwise
public import Idealize.ShloMosaic.Lib.Pipeline.ValueKit

@[expose] public section

set_option maxRecDepth 16384

noncomputable section
namespace Cert.Conv1
open Idealize.ShloMosaic Idealize.ShloMosaic.TcCoe Cert.Quantiser
open Cert.ConvIdeal Cert.ConvIdeal.Gen

/-- One row of activations against one column of a tap's weights. -/
abbrev dot (A : Vec Ideal S512x1920 .bf16) (W : Vec Ideal S1x1x1920x640 .fp8e4m3) (r : Fin 512) (c : Fin 640) : EReal :=
  ∑ k : Fin 1920, A (ix2 r k) * W (ix4 (0 : Fin 1) (0 : Fin 1) k c)

/-! ## The payloads of the nine products -/

section
variable (A : Vec Ideal S512x1920 .bf16) (S : Vec Ideal S448x1920 .bf16) (W : Vec Ideal S1x1x1920x640 .fp8e4m3) (P : Vec Ideal S1x448x640 .f32)
  (z : Fin 1) (r : Fin 512) (r' : Fin 448) (c : Fin 640)

theorem pay9_at : k0_pay9 A W (ix3 z r c) = dot A W r c := by pointwise [k0_pay9]
theorem pay13_at : k0_pay13 A W (ix3 z r c) = dot A W r c := by pointwise [k0_pay13]
theorem pay18_at : k0_pay18 A W (ix3 z r c) = dot A W r c := by pointwise [k0_pay18]

/-- What a shifted product adds to an accumulated block. -/
abbrev step : EReal := P (ix3 (0 : Fin 1) r' c) + ∑ k : Fin 1920, S (ix2 r' k) * W (ix4 (0 : Fin 1) (0 : Fin 1) k c)

theorem pay11_at : k0_pay11 (k0_pay10 S W P) (ix3 z r' c) = step S W P r' c := by pointwise [k0_pay11, k0_pay10]
theorem pay12_at : k0_pay12 S W P (ix3 z r' c) = step S W P r' c := by pointwise [k0_pay12]
theorem pay16_at : k0_pay16 (k0_pay14 S W) (k0_pay15 P) (ix3 z r' c) = step S W P r' c := by pointwise [k0_pay16, k0_pay15, k0_pay14]
theorem pay17_at : k0_pay17 S W P (ix3 z r' c) = step S W P r' c := by pointwise [k0_pay17]
theorem pay20_at (Z : FVec Ideal S448x640 .f32) (hZ : ∀ y, Z y = 0) : k0_pay20 S (k0_pay19 W) Z P (ix3 z r' c) = step S W P r' c := by
  obtain rfl : Z = fun _ => 0 := funext hZ
  pointwise [k0_pay20, k0_pay19]
theorem pay21_at : k0_pay21 S W P (ix3 z r' c) = step S W P r' c := by pointwise [k0_pay21]
end

/-! ## The accumulator -/

/-- The rows from `o` on of a matrix that was stored whole. -/
theorem rows_at (o : ℕ) (ho : o ≤ 64) (inb) (inb') (A : Vec Ideal S512x1920 .bf16) (r : Fin 448) (k : Fin 1920) :
    (View.whole (sig := sig) cc0_scratch1).readCov (Val := Elt Ideal) [⟨Rect.unit (s := S512x1920) ![0, 0] ![512, 1920] inb, A⟩]
      (Rect.unit (s := S512x1920) ![o, 0] ![448, 1920] inb').toLoadRect (ix2 r k) = A (ix2 (⟨o + r, by omega⟩ : Fin 512) k) := by
  rw [View.readCov_eq_canon']
  refine Eq.trans ?_ (View.canon_cons_emb (Val := Elt Ideal) (e := .bf16) (Rect.unit (s := S512x1920) ![0, 0] ![512, 1920] inb) A [] (ix2 (⟨o + r, by omega⟩ : Fin 512) k))
  refine congrArg _ (funext fun a => Fin.ext ?_)
  match a with
  | ⟨0, _⟩ => show o + 1 * r.val = 0 + 1 * (o + r.val); omega
  | ⟨1, _⟩ => show 0 + 1 * k.val = 0 + 1 * k.val; rfl

/-- A block of rows of one plane of the accumulator as the last stores left it. -/
theorem read_at (k o n : ℕ) (hk : k < 3) (ho : o + n ≤ 512) (inb) (L : List (View.Piece (Elt Ideal) S3x512x640 .f32)) (z : Fin 1) (r : Fin n) (c : Fin 640) :
    (View.whole (sig := sig) cc0_scratch0).readCov (Val := Elt Ideal) L
      (Rect.unit (s := S3x512x640) ![k, o, 0] ![1, n, 640] inb).toLoadRect (ix3 z r c)
      = View.canon L (ix3 (⟨k, hk⟩ : Fin 3) (⟨o + r, by omega⟩ : Fin 512) c) := by
  rw [View.readCov_eq_canon']
  refine congrArg _ (funext fun a => Fin.ext ?_)
  match a with
  | ⟨0, _⟩ => show k + 1 * z.val = k; omega
  | ⟨1, _⟩ => show o + 1 * r.val = o + r.val; omega
  | ⟨2, _⟩ => show 0 + 1 * c.val = c.val; omega

/-- A store of rows `o … o + n - 1` of plane `k` gives what is read there … -/
theorem canon_hit (k o n : ℕ) (hk : k < 3) (ho : o + n ≤ 512) (inb) (w : (⟨3, ![1, n, 640]⟩ : Shape).Idx → EReal)
    (L : List (View.Piece (Elt Ideal) S3x512x640 .f32)) (r : Fin 512) (c : Fin 640) (h1 : o ≤ r.val) (h2 : r.val < o + n) :
    View.canon (Val := Elt Ideal) (⟨Rect.unit (s := S3x512x640) ![k, o, 0] ![1, n, 640] inb, w⟩ :: L) (ix3 (⟨k, hk⟩ : Fin 3) r c)
      = w (ix3 (0 : Fin 1) (⟨r.val - o, by omega⟩ : Fin n) c) := by
  refine Eq.trans ?_ (View.canon_cons_emb (Val := Elt Ideal) (e := .f32) (Rect.unit (s := S3x512x640) ![k, o, 0] ![1, n, 640] inb) w L (ix3 (0 : Fin 1) (⟨r.val - o, by omega⟩ : Fin n) c))
  refine congrArg _ (funext fun a => Fin.ext ?_)
  match a with
  | ⟨0, _⟩ => show k = k + 1 * 0; omega
  | ⟨1, _⟩ => show r.val = o + 1 * (r.val - o); omega
  | ⟨2, _⟩ => show c.val = 0 + 1 * c.val; omega

/-- … and leaves the other rows of the plane … -/
theorem canon_miss (k o n : ℕ) (inb) (w : (⟨3, ![1, n, 640]⟩ : Shape).Idx → EReal)
    (L : List (View.Piece (Elt Ideal) S3x512x640 .f32)) (p : Fin 3) (r : Fin 512) (c : Fin 640) (h : r.val < o ∨ o + n ≤ r.val) :
    View.canon (Val := Elt Ideal) (⟨Rect.unit (s := S3x512x640) ![k, o, 0] ![1, n, 640] inb, w⟩ :: L) (ix3 p r c)
      = View.canon L (ix3 p r c) :=
  View.canon_cons_of_not_mem _ _ (Rect.not_mem_set_of_axis _ _ 1 o n rfl rfl rfl h)

/-- … and the other planes as they were. -/
theorem canon_plane (k o n : ℕ) (inb) (w : (⟨3, ![1, n, 640]⟩ : Shape).Idx → EReal)
    (L : List (View.Piece (Elt Ideal) S3x512x640 .f32)) (p : Fin 3) (r : Fin 512) (c : Fin 640) (h : p.val < k ∨ k + 1 ≤ p.val) :
    View.canon (Val := Elt Ideal) (⟨Rect.unit (s := S3x512x640) ![k, o, 0] ![1, n, 640] inb, w⟩ :: L) (ix3 p r c)
      = View.canon L (ix3 p r c) :=
  View.canon_cons_of_not_mem _ _ (Rect.not_mem_set_of_axis _ _ 0 k 1 rfl rfl rfl h)

/-- A plane after its three products: the middle tap, the tap above from row 64 on, the tap below up to row 447. -/
def plane (t0 t1 t2 : Fin 512 → Fin 640 → EReal) (r : Fin 512) (c : Fin 640) : EReal :=
  if h : r.val < 448 then (if _ : 64 ≤ r.val then t1 r c + t0 ⟨r.val - 64, by omega⟩ c else t1 r c) + t2 ⟨64 + r.val, by omega⟩ c
  else (if _ : 64 ≤ r.val then t1 r c + t0 ⟨r.val - 64, by omega⟩ c else t1 r c)

/-- The three stores that make a plane, read back. -/
theorem canon_triple (k : ℕ) (hk : k < 3) (inb1 inb2 inb3) (w1 : (⟨3, ![1, 512, 640]⟩ : Shape).Idx → EReal) (w2 w3 : (⟨3, ![1, 448, 640]⟩ : Shape).Idx → EReal)
    (L : List (View.Piece (Elt Ideal) S3x512x640 .f32)) (t0 t1 t2 : Fin 512 → Fin 640 → EReal)
    (h1 : ∀ r c, w1 (ix3 (0 : Fin 1) r c) = t1 r c)
    (h2 : ∀ (r : Fin 448) c, w2 (ix3 (0 : Fin 1) r c)
      = View.canon (Val := Elt Ideal) (⟨Rect.unit (s := S3x512x640) ![k, 0, 0] ![1, 512, 640] inb1, w1⟩ :: L) (ix3 (⟨k, hk⟩ : Fin 3) (⟨64 + r.val, by omega⟩ : Fin 512) c)
        + t0 ⟨r.val, by omega⟩ c)
    (h3 : ∀ (r : Fin 448) c, w3 (ix3 (0 : Fin 1) r c)
      = View.canon (Val := Elt Ideal) (⟨Rect.unit (s := S3x512x640) ![k, 64, 0] ![1, 448, 640] inb2, w2⟩ :: ⟨Rect.unit (s := S3x512x640) ![k, 0, 0] ![1, 512, 640] inb1, w1⟩ :: L)
          (ix3 (⟨k, hk⟩ : Fin 3) (⟨0 + r.val, by omega⟩ : Fin 512) c)
        + t2 ⟨64 + r.val, by omega⟩ c)
    (r : Fin 512) (c : Fin 640) :
    View.canon (Val := Elt Ideal) (⟨Rect.unit (s := S3x512x640) ![k, 0, 0] ![1, 448, 640] inb3, w3⟩ :: ⟨Rect.unit (s := S3x512x640) ![k, 64, 0] ![1, 448, 640] inb2, w2⟩ ::
      ⟨Rect.unit (s := S3x512x640) ![k, 0, 0] ![1, 512, 640] inb1, w1⟩ :: L) (ix3 (⟨k, hk⟩ : Fin 3) r c) = plane t0 t1 t2 r c := by
  have e1 : ∀ r c, View.canon (Val := Elt Ideal) (⟨Rect.unit (s := S3x512x640) ![k, 0, 0] ![1, 512, 640] inb1, w1⟩ :: L) (ix3 (⟨k, hk⟩ : Fin 3) r c) = t1 r c := fun r c => by
    rw [canon_hit k 0 512 hk (by omega) inb1 w1 L r c (by omega) (by omega)]; exact h1 r c
  have e2 : ∀ r c, View.canon (Val := Elt Ideal) (⟨Rect.unit (s := S3x512x640) ![k, 64, 0] ![1, 448, 640] inb2, w2⟩ :: ⟨Rect.unit (s := S3x512x640) ![k, 0, 0] ![1, 512, 640] inb1, w1⟩ :: L)
      (ix3 (⟨k, hk⟩ : Fin 3) r c) = if _ : 64 ≤ r.val then t1 r c + t0 ⟨r.val - 64, by omega⟩ c else t1 r c := fun r c => by
    split
    · rename_i h
      rw [canon_hit k 64 448 hk (by omega) inb2 w2 _ r c h (by omega), h2, e1]
      congr 2; exact Fin.ext (by show 64 + (r.val - 64) = r.val; omega)
    · rename_i h
      rw [canon_miss k 64 448 inb2 w2 _ _ r c (by omega), e1]
  unfold plane
  split
  · rename_i h
    rw [canon_hit k 0 448 hk (by omega) inb3 w3 _ r c (by omega) (by omega), h3, e2]
    simp only [Nat.sub_zero, Nat.zero_add]
  · rename_i h
    rw [canon_miss k 0 448 inb3 w3 _ _ r c (by omega), e2]
-- ==== Proof.ConvSpec.lean ====
/-
  The convolution and what follows it, written over indices: one row's dot product with a tap, the nine taps of a pixel with the
  taps outside the image left out, the normalised activation, its exponent and its code. Both programs are brought to these.
-/
module

public import proofs.«01_k».proof.Proof.Gen.ConvIdeal.Value
public import proofs.«01_k».proof.Proof.Gen.ConvRefIdeal.Value
public import proofs.«01_k».proof.Proof.Quantiser
public import proofs.«01_k».proof.Proof.ConvSum
public import Idealize.ShloMosaic.Lib.Pointwise
public import Idealize.ShloMosaic.Lib.Pipeline.ValueKit

@[expose] public section

set_option maxRecDepth 16384

noncomputable section
namespace Cert.Conv1
open Idealize.ShloMosaic Idealize.ShloMosaic.TcCoe Cert.Quantiser
open Cert.ConvIdeal Cert.ConvIdeal.Gen

section
variable (x : Vec Ideal S4x512x1920 .fp8e4m3) (s : Vec Ideal S4x512 .f32) (w : Vec Ideal S3x3x1920x640 .fp8e4m3)
  (ws b1 : Vec Ideal S640 .f32) (te : Vec Ideal S4x640 .f32) (mu rs : Vec Ideal S4x32 .f32) (ga be : Vec Ideal S640 .f32)

/-- Pixel `r` of image `b` against column `c` of the weights of tap `(ky, kx)`. -/
abbrev row (b : Fin 4) (ky kx : Fin 3) (r : Fin 512) (c : Fin 640) : EReal :=
  ∑ k : Fin 1920, x (ix3 b r k) * s (ix2 b r) * w (ix4 ky kx k c)

/-- What tap `(ky, kx)` adds to output pixel `r`: the product of the pixel it meets, nothing where it meets the border. -/
def tap (b : Fin 4) (ky kx : Fin 3) (r : Fin 512) (c : Fin 640) : EReal :=
  if h : (1 ≤ ky.val + r.val / 64 ∧ ky.val + r.val / 64 ≤ 8) ∧ (1 ≤ kx.val + r.val % 64 ∧ kx.val + r.val % 64 ≤ 64) then
    row x s w b ky kx ⟨(ky.val + r.val / 64 - 1) * 64 + (kx.val + r.val % 64 - 1), by omega⟩ c
  else 0

/-- The convolution, tap by tap. -/
abbrev conv (b : Fin 4) (r : Fin 512) (c : Fin 640) : EReal :=
  tap x s w b 0 0 r c + tap x s w b 0 1 r c + tap x s w b 0 2 r c + tap x s w b 1 0 r c + tap x s w b 1 1 r c
    + tap x s w b 1 2 r c + tap x s w b 2 0 r c + tap x s w b 2 1 r c + tap x s w b 2 2 r c

/-- The normalised sum of the convolution, the bias and the time embedding. -/
abbrev zz (b : Fin 4) (r : Fin 512) (c : Fin 640) : EReal :=
  (conv x s w b r c * ws (ix1 c) + b1 (ix1 c) + te (ix2 b c) - mu (ix2 b ⟨c.val / 20, by omega⟩)) * rs (ix2 b ⟨c.val / 20, by omega⟩)
    * ga (ix1 c) + be (ix1 c)

/-- The second activation. -/
abbrev act (b : Fin 4) (r : Fin 512) (c : Fin 640) : EReal :=
  zz x s w ws b1 te mu rs ga be b r c * Ideal.logistic (zz x s w ws b1 te mu rs ga be b r c)

/-- The exponent of pixel `r` of image `b`. -/
abbrev pixelExpo (b : Fin 4) (r : Fin 512) : EReal :=
  expo (largest (act x s w ws b1 te mu rs ga be b r)) (largest (act x s w ws b1 te mu rs ga be b r) * Ideal.ofBits .f32 0x3B124925#32)

/-- The code of a channel. -/
abbrev code (b : Fin 4) (r : Fin 512) (c : Fin 640) : EReal :=
  min (Ideal.ofBits .f32 0x43E00000#32) (max (Ideal.ofBits .f32 0xC3E00000#32)
    (act x s w ws b1 te mu rs ga be b r c * Ideal.exp2 (0 - pixelExpo x s w ws b1 te mu rs ga be b r)))

/-- Away from the border of columns, a plane of the accumulator holds the three taps of its column of the weights. -/
theorem plane_eq (b : Fin 4) (kx : Fin 3) (r r' : Fin 512) (c : Fin 640) (h : r'.val / 64 = r.val / 64) (hc : r'.val % 64 + 1 = kx.val + r.val % 64) :
    plane (row x s w b 0 kx) (row x s w b 1 kx) (row x s w b 2 kx) r' c
      = tap x s w b 1 kx r c + tap x s w b 0 kx r c + tap x s w b 2 kx r c := by
  have h1 : tap x s w b 1 kx r c = row x s w b 1 kx r' c := by
    unfold tap
    rw [dif_pos ⟨⟨by show 1 ≤ 1 + r.val / 64; omega, by show 1 + r.val / 64 ≤ 8; omega⟩, by omega, by omega⟩]
    exact congrArg (fun q => row x s w b 1 kx q c) (Fin.ext (by show (1 + r.val / 64 - 1) * 64 + (kx.val + r.val % 64 - 1) = r'.val; omega))
  have h0 : tap x s w b 0 kx r c = if h : 64 ≤ r'.val then row x s w b 0 kx ⟨r'.val - 64, by omega⟩ c else 0 := by
    unfold tap
    split
    · rename_i g
      have g1 : 1 ≤ 0 + r.val / 64 := g.1.1
      rw [dif_pos (by omega)]
      exact congrArg (fun q => row x s w b 0 kx q c) (Fin.ext (by show (0 + r.val / 64 - 1) * 64 + (kx.val + r.val % 64 - 1) = r'.val - 64; omega))
    · rename_i g
      rw [dif_neg fun g' => g ⟨⟨by show 1 ≤ 0 + r.val / 64; omega, by show 0 + r.val / 64 ≤ 8; omega⟩, by omega, by omega⟩]
  have h2 : tap x s w b 2 kx r c = if h : r'.val < 448 then row x s w b 2 kx ⟨64 + r'.val, by omega⟩ c else 0 := by
    unfold tap
    split
    · rename_i g
      have g1 : 2 + r.val / 64 ≤ 8 := g.1.2
      rw [dif_pos (by omega)]
      exact congrArg (fun q => row x s w b 2 kx q c) (Fin.ext (by show (2 + r.val / 64 - 1) * 64 + (kx.val + r.val % 64 - 1) = 64 + r'.val; omega))
    · rename_i g
      rw [dif_neg fun g' => g ⟨⟨by show 1 ≤ 2 + r.val / 64; omega, by show 2 + r.val / 64 ≤ 8; omega⟩, by omega, by omega⟩]
  rw [h0, h1, h2]
  unfold plane
  split_ifs <;> simp only [add_zero]

/-- At the first column nothing comes from the left, at the last nothing from the right. -/
theorem tap_left (b : Fin 4) (ky : Fin 3) (r : Fin 512) (c : Fin 640) (h : r.val % 64 = 0) : tap x s w b ky 0 r c = 0 :=
  dif_neg fun g => by have : 1 ≤ 0 + r.val % 64 := g.2.1; omega
theorem tap_right (b : Fin 4) (ky : Fin 3) (r : Fin 512) (c : Fin 640) (h : r.val % 64 = 63) : tap x s w b ky 2 r c = 0 :=
  dif_neg fun g => by have : 2 + r.val % 64 ≤ 64 := g.2.2; omega

/-- The three planes, the first and the last shifted by a pixel and masked at the border, add up to the convolution. -/
theorem planes_conv (b : Fin 4) (r : Fin 512) (c : Fin 640) :
    (if h : r.val % 64 = 0 then 0 else plane (row x s w b 0 0) (row x s w b 1 0) (row x s w b 2 0) ⟨r.val - 1, by omega⟩ c)
      + plane (row x s w b 0 1) (row x s w b 1 1) (row x s w b 2 1) r c
      + (if h : r.val % 64 = 63 then 0 else plane (row x s w b 0 2) (row x s w b 1 2) (row x s w b 2 2) ⟨r.val + 1, by omega⟩ c)
      = conv x s w b r c := by
  have e0 : (if h : r.val % 64 = 0 then 0 else plane (row x s w b 0 0) (row x s w b 1 0) (row x s w b 2 0) ⟨r.val - 1, by omega⟩ c)
      = tap x s w b 1 0 r c + tap x s w b 0 0 r c + tap x s w b 2 0 r c := by
    split
    · rename_i h
      simp only [tap_left x s w b _ r c h, add_zero]
    · rename_i h
      exact plane_eq x s w b 0 r _ c (by show (r.val - 1) / 64 = r.val / 64; omega) (by show (r.val - 1) % 64 + 1 = 0 + r.val % 64; omega)
  have e2 : (if h : r.val % 64 = 63 then 0 else plane (row x s w b 0 2) (row x s w b 1 2) (row x s w b 2 2) ⟨r.val + 1, by omega⟩ c)
      = tap x s w b 1 2 r c + tap x s w b 0 2 r c + tap x s w b 2 2 r c := by
    split
    · rename_i h
      simp only [tap_right x s w b _ r c h, add_zero]
    · rename_i h
      exact plane_eq x s w b 2 r _ c (by show (r.val + 1) / 64 = r.val / 64; omega) (by show (r.val + 1) % 64 + 1 = 2 + r.val % 64; omega)
  rw [e0, e2, plane_eq x s w b 1 r r c rfl (by show r.val % 64 + 1 = 1 + r.val % 64; omega)]
  unfold conv
  ac_rfl
end
end Cert.Conv1
-- ==== Proof.ConvRef.lean ====
/-
  The reference convolution call, read at an index: its nine shifted products over the padded image are the taps of ConvSpec, and
  its three results are the codes, scales and activation stated there.
-/
module

public import proofs.«01_k».proof.Proof.Gen.ConvIdeal.Value
public import proofs.«01_k».proof.Proof.Gen.ConvRefIdeal.Value
public import proofs.«01_k».proof.Proof.Quantiser
public import proofs.«01_k».proof.Proof.ConvSpec
public import Idealize.ShloMosaic.Lib.Pointwise
public import Idealize.ShloMosaic.Lib.Pipeline.ValueKit

@[expose] public section

set_option maxRecDepth 16384

noncomputable section
namespace Cert.Conv1
open Idealize.ShloMosaic Idealize.ShloMosaic.TcCoe Cert.Quantiser
open Cert.ConvRefIdeal Cert.ConvRefIdeal.Gen

/-! ## The reference's convolution -/

theorem word_zero : (((0#32 : BitVec 32).toInt : ℝ) : EReal) = 0 := by simp

section
variable (X : FVec Ideal S4x10x66x1920 .bf16) (p0 p1 : FVec Ideal S2048x640 .f32) (w0 w1 w2 w3 : Vec Ideal S1x1x1920x640 .fp8e4m3)
  (v0 : Vec Ideal S4x512x1920 .fp8e4m3) (v2 : Vec Ideal S4x512 .f32)
  (b : Fin 4) (r : Fin 512) (c : Fin 640)

/-- Pixel `(yy, xx)` of the image with its border of zeros. -/
theorem padded_at (yy : Fin 10) (xx : Fin 66) (k : Fin 1920) : k0_pay1 v0 v2 (ix4 b yy xx k)
    = if h : (1 ≤ yy.val ∧ yy.val ≤ 8) ∧ (1 ≤ xx.val ∧ xx.val ≤ 64) then
        v0 (ix3 b ⟨(yy.val - 1) * 64 + (xx.val - 1), by omega⟩ k) * v2 (ix2 b ⟨(yy.val - 1) * 64 + (xx.val - 1), by omega⟩) else 0 := by
  pointwise [k0_pay1]
  simp only [word_zero]
  split_ifs
  all_goals first | rfl | (exfalso; omega) | rw [dif_pos (by omega)]

/-- One tap of the padded image. -/
abbrev shifted (w : Vec Ideal S1x1x1920x640 .fp8e4m3) (ky kx : Fin 3) : EReal :=
  ∑ k : Fin 1920, X (ix4 b (⟨ky.val + r.val / 64, by omega⟩ : Fin 10) (⟨kx.val + r.val % 64, by omega⟩ : Fin 66) k) * w (ix4 (0 : Fin 1) (0 : Fin 1) k c)

/-- Row `r` of image `b` of the flattened batch. -/
abbrev flat : Fin 2048 := ⟨b.val * 512 + r.val, by omega⟩

theorem shift_eq (w : Vec Ideal S1x1x1920x640 .fp8e4m3) (ky kx : Fin 3) (b' : Fin 4) (y : Fin 10) (x : Fin 66) (hb : b'.val = b.val) (hy : y.val = ky.val + r.val / 64) (hx : x.val = kx.val + r.val % 64) :
    (∑ k : Fin 1920, X (ix4 b' y x k) * w (ix4 (0 : Fin 1) (0 : Fin 1) k c)) = shifted X b r c w ky kx := by
  obtain rfl : b' = b := Fin.ext hb
  have e1 : y = ⟨ky.val + r.val / 64, by omega⟩ := Fin.ext hy
  have e2 : x = ⟨kx.val + r.val % 64, by omega⟩ := Fin.ext hx
  rw [e1, e2]

/-- The row of the flattened batch read back as image, row of the image and column. -/
theorem flat_shift (w : Vec Ideal S1x1x1920x640 .fp8e4m3) (ky kx : Fin 3) (b' : Fin 4) (y : Fin 10) (x : Fin 66) (hb : b'.val = (b.val * 512 + r.val) / 512)
    (hy : y.val = ky.val + (b.val * 512 + r.val) / 64 % 8) (hx : x.val = kx.val + (b.val * 512 + r.val) % 64) :
    (∑ k : Fin 1920, X (ix4 b' y x k) * w (ix4 (0 : Fin 1) (0 : Fin 1) k c)) = shifted X b r c w ky kx :=
  shift_eq X b r c w ky kx b' y x (by omega) (by omega) (by omega)

theorem pay2_at : k0_pay2 v0 v2 w0 w1 (ix2 (flat b r) c) = shifted (k0_pay1 v0 v2) b r c w0 0 0 + shifted (k0_pay1 v0 v2) b r c w1 0 1 := by
  unfold k0_pay2
  generalize k0_pay1 v0 v2 = X
  pointwise []
  exact congrArg₂ (· + ·) (flat_shift X b r c w0 0 0 _ _ _ rfl (Nat.zero_add _).symm (Nat.zero_add _).symm)
    (flat_shift X b r c w1 0 1 _ _ _ rfl (Nat.zero_add _).symm rfl)
theorem pay3_at : k0_pay3 v0 v2 w0 (ix2 (flat b r) c) = shifted (k0_pay1 v0 v2) b r c w0 0 2 := by
  unfold k0_pay3
  generalize k0_pay1 v0 v2 = X
  pointwise []
  exact flat_shift X b r c w0 0 2 _ _ _ rfl (Nat.zero_add _).symm rfl
theorem pay4_at : k0_pay4 X p0 p1 w0 w1 w2 w3 (ix2 (flat b r) c) = p0 (ix2 (flat b r) c) + p1 (ix2 (flat b r) c)
    + shifted X b r c w0 1 0 + shifted X b r c w1 1 1 + shifted X b r c w2 1 2 + shifted X b r c w3 2 0 := by
  pointwise [k0_pay4]
  exact congrArg₂ (· + ·) (congrArg₂ (· + ·) (congrArg₂ (· + ·) (congrArg₂ (· + ·) rfl (flat_shift X b r c w0 1 0 _ _ _ rfl rfl (Nat.zero_add _).symm))
    (flat_shift X b r c w1 1 1 _ _ _ rfl rfl rfl)) (flat_shift X b r c w2 1 2 _ _ _ rfl rfl rfl)) (flat_shift X b r c w3 2 0 _ _ _ rfl rfl (Nat.zero_add _).symm)
theorem pay5_at : k0_pay5 X w0 (ix2 (flat b r) c) = shifted X b r c w0 2 1 := by
  pointwise [k0_pay5]
  exact flat_shift X b r c w0 2 1 _ _ _ rfl rfl rfl

/-- The normalised sum from the convolution's sum. -/
abbrev norm (h ws b1 te mu rs ga be : EReal) : EReal := (h * ws + b1 + te - mu) * rs * ga + be

theorem pay6_at (w : Vec Ideal S1x1x1920x640 .fp8e4m3) (ws b1 : Vec Ideal S640 .f32) (te : Vec Ideal S4x640 .f32) (mu rs : Vec Ideal S4x32 .f32) (ga be : Vec Ideal S640 .f32) (h : EReal)
    (hh : p0 (ix2 (flat b r) c) + p1 (ix2 (flat b r) c) + shifted X b r c w 2 2 = h) :
    k0_pay6 X p0 p1 w ws b1 te mu rs ga be (ix3 b r c)
      = norm h (ws (ix1 c)) (b1 (ix1 c)) (te (ix2 b c)) (mu (ix2 b ⟨c.val / 20, by omega⟩)) (rs (ix2 b ⟨c.val / 20, by omega⟩)) (ga (ix1 c)) (be (ix1 c))
       * Ideal.logistic (norm h (ws (ix1 c)) (b1 (ix1 c)) (te (ix2 b c)) (mu (ix2 b ⟨c.val / 20, by omega⟩)) (rs (ix2 b ⟨c.val / 20, by omega⟩)) (ga (ix1 c)) (be (ix1 c))) := by
  have e : p0 (ix2 (flat b r) c) + p1 (ix2 (flat b r) c) + (∑ k : Fin 1920, X (ix4 b (⟨2 + (b.val * 512 + r.val) / 64 % 8, by omega⟩ : Fin 10)
      (⟨2 + (b.val * 512 + r.val) % 64, by omega⟩ : Fin 66) k) * w (ix4 (0 : Fin 1) (0 : Fin 1) k c)) = h :=
    (congrArg (fun z => p0 (ix2 (flat b r) c) + p1 (ix2 (flat b r) c) + z) (flat_shift X b r c w 2 2 _ _ _ (by omega) rfl rfl)).trans hh
  rw [← e]
  pointwise [k0_pay6]
end

/-! ## Its quantiser -/

theorem max_form (A : FVec Ideal S4x512x640 .f32) (b : Fin 4) (r : Fin 512) :
    (multiReduction .maximumf [2] S4x512 (absf A) 0xFF800000#32 reduces_S4x512x640_S4x512 (.inl rfl) rfl : FVec Ideal S4x512 .f32) (ix2 b r)
      = largest fun c => A (ix3 b r c) := by
  pointwise []

theorem expo_form (A : FVec Ideal S4x512 .f32) (b : Fin 4) (r : Fin 512) :
    k0_pay8 A (Scalar.ofBits .f32 0x3B124925#32 : Ideal .f32) (ix2 b r) = expo (A (ix2 b r)) (A (ix2 b r) * Ideal.ofBits .f32 0x3B124925#32) := by
  refine Eq.trans (b := Scalar.select (BitVec.ofBool (decide (A (ix2 b r) = Ideal.ofBits .f32 0x00000000#32))) (Ideal.ofBits .f32 0x00000000#32)
    (min (Ideal.ofBits .f32 0x42FC0000#32) (max (Ideal.ofBits .f32 0xC2FC0000#32)
      (Ideal.liftRound Int.floor (Ideal.div (Ideal.log (A (ix2 b r) * Ideal.ofBits .f32 0x3B124925#32)) (Ideal.log (Ideal.ofBits .f32 0x40000000#32)))
        + Ideal.ofBits .f32 0x3F800000#32)))) rfl ?_
  rw [Ideal.ofBits_zero_f32, Ideal.ofBits_one_f32]
  unfold expo
  by_cases h : A (ix2 b r) = 0
  · rw [if_pos h, decide_eq_true h]; rfl
  · rw [if_neg h, decide_eq_false h]; rfl

theorem codes_form (v : FVec Ideal S4x512x640 .f32) (A : FVec Ideal S4x512 .f32) (q : Ideal .f32) (b : Fin 4) (r : Fin 512) (c : Fin 640) :
    k0_pay10 v A q (ix3 b r c) = min (Ideal.ofBits .f32 0x43E00000#32) (max (Ideal.ofBits .f32 0xC3E00000#32)
        (v (ix3 b r c) * Ideal.exp2 (0 - k0_pay8 A q (ix2 b r)))) := by
  unfold k0_pay10
  generalize k0_pay8 A q = E
  pointwise []
  try rfl
theorem scale_form (A : FVec Ideal S4x512 .f32) (q : Ideal .f32) (b i : Fin 4) (l : Fin 128) :
    k0_pay11 A q (ix4 b i (0 : Fin 1) l) = Ideal.exp2 (k0_pay8 A q (ix2 b ⟨i.val * 128 + l.val, by omega⟩)) := by
  unfold k0_pay11 k0_pay9
  generalize k0_pay8 A q = E
  pointwise []
  try rfl
theorem a2_form (v : FVec Ideal S4x512x640 .f32) (A : FVec Ideal S4x512 .f32) (q : Ideal .f32) (b : Fin 4) (r : Fin 512) (c : Fin 640) :
    k0_pay12 v A q (ix3 b r c) = k0_pay10 v A q (ix3 b r c) * Ideal.exp2 (k0_pay8 A q (ix2 b r)) := by
  unfold k0_pay12 k0_pay9
  generalize k0_pay10 v A q = D
  generalize k0_pay8 A q = E
  pointwise []
  try rfl

/-! ## The reference's three results -/

section
variable (x : Vec Ideal S4x512x1920 .fp8e4m3) (s : Vec Ideal S4x512 .f32) (w : Vec Ideal S3x3x1920x640 .fp8e4m3)
  (ws b1 : Vec Ideal S640 .f32) (te : Vec Ideal S4x640 .f32) (mu rs : Vec Ideal S4x32 .f32) (ga be : Vec Ideal S640 .f32)
  (b : Fin 4) (r : Fin 512) (c : Fin 640)

/-- A tap's weights are a block of the weight array. -/
theorem weights_at (ky kx : ℕ) (hy : ky < 3) (hx : kx < 3) (inb) (k : Fin 1920) (c : Fin 640) :
    View.ld w (Rect.unit (s := S3x3x1920x640) ![ky, kx, 0, 0] ![1, 1, 1920, 640] inb) (ix4 (0 : Fin 1) (0 : Fin 1) k c)
      = w (ix4 (⟨ky, hy⟩ : Fin 3) (⟨kx, hx⟩ : Fin 3) k c) := by
  show w _ = w _
  refine congrArg w (funext fun a => Fin.ext ?_)
  match a with
  | ⟨0, _⟩ => show ky + 1 * 0 = ky; omega
  | ⟨1, _⟩ => show kx + 1 * 0 = kx; omega
  | ⟨2, _⟩ => show 0 + 1 * k.val = k.val; omega
  | ⟨3, _⟩ => show 0 + 1 * c.val = c.val; omega

/-- A shifted product of the padded image is a tap. -/
theorem shifted_tap (W : Vec Ideal S1x1x1920x640 .fp8e4m3) (ky kx : Fin 3)
    (hW : ∀ k c, W (ix4 (0 : Fin 1) (0 : Fin 1) k c) = w (ix4 ky kx k c)) :
    shifted (k0_pay1 x s) b r c W ky kx = tap x s w b ky kx r c := by
  unfold shifted tap
  simp only [padded_at, hW]
  split
  · rfl
  · simp only [zero_mul, Finset.sum_const_zero]

/-- The second activation as the reference forms it. -/
theorem ref_act : k0_pay16 x s w ws b1 te mu rs ga be (ix3 b r c) = act x s w ws b1 te mu rs ga be b r c := by
  unfold k0_pay16 k0_pay15 k0_pay14 k0_pay13
  rw [View.ld_unit_zero (S := S4x512x1920) Value.hz0 _ x, View.ld_unit_zero (S := S4x512) Value.hz1 _ s, View.ld_unit_zero (S := S640) Value.hz3 _ ws,
    View.ld_unit_zero (S := S640) Value.hz3 _ b1, View.ld_unit_zero (S := S4x640) Value.hz1 _ te, View.ld_unit_zero (S := S4x32) Value.hz1 _ mu,
    View.ld_unit_zero (S := S4x32) Value.hz1 _ rs, View.ld_unit_zero (S := S640) Value.hz3 _ ga, View.ld_unit_zero (S := S640) Value.hz3 _ be]
  refine pay6_at _ _ _ b r c _ _ _ _ _ _ _ _ (conv x s w b r c) ?_
  rw [pay4_at, pay5_at, pay2_at, pay3_at,
    shifted_tap x s w b r c _ 0 0 (weights_at w 0 0 (by omega) (by omega) _), shifted_tap x s w b r c _ 0 1 (weights_at w 0 1 (by omega) (by omega) _),
    shifted_tap x s w b r c _ 0 2 (weights_at w 0 2 (by omega) (by omega) _), shifted_tap x s w b r c _ 1 0 (weights_at w 1 0 (by omega) (by omega) _),
    shifted_tap x s w b r c _ 1 1 (weights_at w 1 1 (by omega) (by omega) _), shifted_tap x s w b r c _ 1 2 (weights_at w 1 2 (by omega) (by omega) _),
    shifted_tap x s w b r c _ 2 0 (weights_at w 2 0 (by omega) (by omega) _), shifted_tap x s w b r c _ 2 1 (weights_at w 2 1 (by omega) (by omega) _),
    shifted_tap x s w b r c _ 2 2 (weights_at w 2 2 (by omega) (by omega) _)]

theorem ref_max : k0_pay17 x s w ws b1 te mu rs ga be (ix2 b r) = largest (act x s w ws b1 te mu rs ga be b r) :=
  (max_form (k0_pay16 x s w ws b1 te mu rs ga be) b r).trans (congrArg largest (funext fun c => ref_act x s w ws b1 te mu rs ga be b r c))

theorem ref_expo : k0_pay8 (k0_pay17 x s w ws b1 te mu rs ga be) (Scalar.ofBits .f32 0x3B124925#32 : Ideal .f32) (ix2 b r) = pixelExpo x s w ws b1 te mu rs ga be b r := by
  rw [expo_form, ref_max]

/-- The reference's codes … -/
theorem ref_codes : Value.G10 x s w ws b1 te mu rs ga be (ix3 b r c) = code x s w ws b1 te mu rs ga be b r c := by
  unfold Value.G10
  rw [codes_form, ref_act, ref_expo]

/-- … its scales … -/
theorem ref_scale (i : Fin 4) (l : Fin 128) : Value.G11 x s w ws b1 te mu rs ga be (ix4 b i (0 : Fin 1) l)
    = Ideal.exp2 (pixelExpo x s w ws b1 te mu rs ga be b ⟨i.val * 128 + l.val, by omega⟩) := by
  unfold Value.G11
  rw [scale_form, ref_expo]

/-- … and the activation its codes and scales stand for. -/
theorem ref_a2 : Value.G12 x s w ws b1 te mu rs ga be (ix3 b r c)
    = code x s w ws b1 te mu rs ga be b r c * Ideal.exp2 (pixelExpo x s w ws b1 te mu rs ga be b r) := by
  unfold Value.G12
  rw [a2_form, codes_form, ref_act, ref_expo]
end
end Cert.Conv1
-- ==== Proof.ConvPayloads.lean ====
/-
  The convolution kernel's payloads, read at an index: the lists of stores into each accumulator, the three column sums they
  leave, the two rolled and masked columns, and the normalisation and quantiser after them.
-/
module

public import proofs.«01_k».proof.Proof.Gen.ConvIdeal.Value
public import proofs.«01_k».proof.Proof.Gen.ConvRefIdeal.Value
public import proofs.«01_k».proof.Proof.Quantiser
public import proofs.«01_k».proof.Proof.ConvRef
public import Idealize.ShloMosaic.Lib.Pointwise
public import Idealize.ShloMosaic.Lib.Pipeline.ValueKit

@[expose] public section

set_option maxRecDepth 16384

noncomputable section
namespace Cert.Conv1
open Idealize.ShloMosaic Idealize.ShloMosaic.TcCoe Cert.Quantiser
open Cert.ConvIdeal Cert.ConvIdeal.Gen

/-! ## The accumulator's stores -/

section
variable (A : Vec Ideal S512x1920 .bf16) (X2 : Vec Ideal S3x3x1920x640 .fp8e4m3)

/-- The rows the tap above reads and the rows the tap below reads. -/
abbrev low : Vec Ideal S448x1920 .bf16 := (View.whole (sig := sig) cc0_scratch1).readCov (Val := Elt Ideal)
  [⟨Rect.unit (s := S512x1920) ![0, 0] ![512, 1920] inb_S512x1920_S512x1920_0_0, A⟩] (Rect.unit (s := S512x1920) ![0, 0] ![448, 1920] inb_S512x1920_S448x1920_0_0).toLoadRect
abbrev high : Vec Ideal S448x1920 .bf16 := (View.whole (sig := sig) cc0_scratch1).readCov (Val := Elt Ideal)
  [⟨Rect.unit (s := S512x1920) ![0, 0] ![512, 1920] inb_S512x1920_S512x1920_0_0, A⟩] (Rect.unit (s := S512x1920) ![64, 0] ![448, 1920] inb_S512x1920_S448x1920_64_0).toLoadRect

/-- The nine stores, oldest first. -/
abbrev L1 : List (View.Piece (Elt Ideal) S3x512x640 .f32) :=
  [⟨Rect.unit (s := S3x512x640) ![0, 0, 0] ![1, 512, 640] inb_S3x512x640_S1x512x640_0_0_0,
    k0_pay9 A (View.ld X2 (Rect.unit (s := S3x3x1920x640) ![1, 0, 0, 0] ![1, 1, 1920, 640] inb_S3x3x1920x640_S1x1x1920x640_1_0_0_0))⟩]
abbrev L2 : List (View.Piece (Elt Ideal) S3x512x640 .f32) :=
  ⟨Rect.unit (s := S3x512x640) ![0, 64, 0] ![1, 448, 640] inb_S3x512x640_S1x448x640_0_64_0,
    k0_pay11 (k0_pay10 (low A) (View.ld X2 (Rect.unit (s := S3x3x1920x640) ![0, 0, 0, 0] ![1, 1, 1920, 640] inb_S3x3x1920x640_S1x1x1920x640_0_0_0_0))
      ((View.whole (sig := sig) cc0_scratch0).readCov (Val := Elt Ideal) (L1 A X2) (Rect.unit (s := S3x512x640) ![0, 64, 0] ![1, 448, 640] inb_S3x512x640_S1x448x640_0_64_0).toLoadRect))⟩ :: L1 A X2
abbrev L3 : List (View.Piece (Elt Ideal) S3x512x640 .f32) :=
  ⟨Rect.unit (s := S3x512x640) ![0, 0, 0] ![1, 448, 640] inb_S3x512x640_S1x448x640_0_0_0,
    k0_pay12 (high A) (View.ld X2 (Rect.unit (s := S3x3x1920x640) ![2, 0, 0, 0] ![1, 1, 1920, 640] inb_S3x3x1920x640_S1x1x1920x640_2_0_0_0))
      ((View.whole (sig := sig) cc0_scratch0).readCov (Val := Elt Ideal) (L2 A X2) (Rect.unit (s := S3x512x640) ![0, 0, 0] ![1, 448, 640] inb_S3x512x640_S1x448x640_0_0_0).toLoadRect)⟩ :: L2 A X2
abbrev L4 : List (View.Piece (Elt Ideal) S3x512x640 .f32) :=
  ⟨Rect.unit (s := S3x512x640) ![1, 0, 0] ![1, 512, 640] inb_S3x512x640_S1x512x640_1_0_0,
    k0_pay13 A (View.ld X2 (Rect.unit (s := S3x3x1920x640) ![1, 1, 0, 0] ![1, 1, 1920, 640] inb_S3x3x1920x640_S1x1x1920x640_1_1_0_0))⟩ :: L3 A X2
abbrev L5 : List (View.Piece (Elt Ideal) S3x512x640 .f32) :=
  ⟨Rect.unit (s := S3x512x640) ![1, 64, 0] ![1, 448, 640] inb_S3x512x640_S1x448x640_1_64_0,
    k0_pay16 (k0_pay14 (low A) (View.ld X2 (Rect.unit (s := S3x3x1920x640) ![0, 1, 0, 0] ![1, 1, 1920, 640] inb_S3x3x1920x640_S1x1x1920x640_0_1_0_0)))
      (k0_pay15 ((View.whole (sig := sig) cc0_scratch0).readCov (Val := Elt Ideal) (L4 A X2) (Rect.unit (s := S3x512x640) ![1, 64, 0] ![1, 448, 640] inb_S3x512x640_S1x448x640_1_64_0).toLoadRect))⟩ :: L4 A X2
abbrev L6 : List (View.Piece (Elt Ideal) S3x512x640 .f32) :=
  ⟨Rect.unit (s := S3x512x640) ![1, 0, 0] ![1, 448, 640] inb_S3x512x640_S1x448x640_1_0_0,
    k0_pay17 (high A) (View.ld X2 (Rect.unit (s := S3x3x1920x640) ![2, 1, 0, 0] ![1, 1, 1920, 640] inb_S3x3x1920x640_S1x1x1920x640_2_1_0_0))
      ((View.whole (sig := sig) cc0_scratch0).readCov (Val := Elt Ideal) (L5 A X2) (Rect.unit (s := S3x512x640) ![1, 0, 0] ![1, 448, 640] inb_S3x512x640_S1x448x640_1_0_0).toLoadRect)⟩ :: L5 A X2
abbrev L7 : List (View.Piece (Elt Ideal) S3x512x640 .f32) :=
  ⟨Rect.unit (s := S3x512x640) ![2, 0, 0] ![1, 512, 640] inb_S3x512x640_S1x512x640_2_0_0,
    k0_pay18 A (View.ld X2 (Rect.unit (s := S3x3x1920x640) ![1, 2, 0, 0] ![1, 1, 1920, 640] inb_S3x3x1920x640_S1x1x1920x640_1_2_0_0))⟩ :: L6 A X2
abbrev L8 : List (View.Piece (Elt Ideal) S3x512x640 .f32) :=
  ⟨Rect.unit (s := S3x512x640) ![2, 64, 0] ![1, 448, 640] inb_S3x512x640_S1x448x640_2_64_0,
    k0_pay20 (low A) (k0_pay19 (View.ld X2 (Rect.unit (s := S3x3x1920x640) ![0, 2, 0, 0] ![1, 1, 1920, 640] inb_S3x3x1920x640_S1x1x1920x640_0_2_0_0)))
      (constant S448x640 .f32 0x00000000#32)
      ((View.whole (sig := sig) cc0_scratch0).readCov (Val := Elt Ideal) (L7 A X2) (Rect.unit (s := S3x512x640) ![2, 64, 0] ![1, 448, 640] inb_S3x512x640_S1x448x640_2_64_0).toLoadRect)⟩ :: L7 A X2
abbrev L9 : List (View.Piece (Elt Ideal) S3x512x640 .f32) :=
  ⟨Rect.unit (s := S3x512x640) ![2, 0, 0] ![1, 448, 640] inb_S3x512x640_S1x448x640_2_0_0,
    k0_pay21 (high A) (View.ld X2 (Rect.unit (s := S3x3x1920x640) ![2, 2, 0, 0] ![1, 1, 1920, 640] inb_S3x3x1920x640_S1x1x1920x640_2_2_0_0))
      ((View.whole (sig := sig) cc0_scratch0).readCov (Val := Elt Ideal) (L8 A X2) (Rect.unit (s := S3x512x640) ![2, 0, 0] ![1, 448, 640] inb_S3x512x640_S1x448x640_2_0_0).toLoadRect)⟩ :: L8 A X2

/-- One tap of the weight array against one row. -/
abbrev rowA (ky kx : Fin 3) (r : Fin 512) (c : Fin 640) : EReal := ∑ k : Fin 1920, A (ix2 r k) * X2 (ix4 ky kx k c)

theorem low_sum (W : Vec Ideal S1x1x1920x640 .fp8e4m3) (ky kx : Fin 3) (hW : ∀ k c, W (ix4 (0 : Fin 1) (0 : Fin 1) k c) = X2 (ix4 ky kx k c)) (r : Fin 448) (c : Fin 640) :
    (∑ k : Fin 1920, low A (ix2 r k) * W (ix4 (0 : Fin 1) (0 : Fin 1) k c)) = rowA A X2 ky kx ⟨r.val, by omega⟩ c := by
  refine Finset.sum_congr rfl fun k _ => ?_
  rw [hW]
  exact congrArg (· * X2 (ix4 ky kx k c)) ((rows_at 0 (by omega) _ _ A r k).trans (congrArg (fun q => A (ix2 q k)) (Fin.ext (Nat.zero_add _))))
theorem high_sum (W : Vec Ideal S1x1x1920x640 .fp8e4m3) (ky kx : Fin 3) (hW : ∀ k c, W (ix4 (0 : Fin 1) (0 : Fin 1) k c) = X2 (ix4 ky kx k c)) (r : Fin 448) (c : Fin 640) :
    (∑ k : Fin 1920, high A (ix2 r k) * W (ix4 (0 : Fin 1) (0 : Fin 1) k c)) = rowA A X2 ky kx ⟨64 + r.val, by omega⟩ c := by
  refine Finset.sum_congr rfl fun k _ => ?_
  rw [hW]
  exact congrArg (· * X2 (ix4 ky kx k c)) (rows_at 64 (by omega) _ _ A r k)
theorem dot_sum (W : Vec Ideal S1x1x1920x640 .fp8e4m3) (ky kx : Fin 3) (hW : ∀ k c, W (ix4 (0 : Fin 1) (0 : Fin 1) k c) = X2 (ix4 ky kx k c)) (r : Fin 512) (c : Fin 640) :
    dot A W r c = rowA A X2 ky kx r c :=
  Finset.sum_congr rfl fun k _ => by rw [hW]

theorem plane0 (r : Fin 512) (c : Fin 640) : View.canon (L3 A X2) (ix3 (0 : Fin 3) r c)
    = plane (rowA A X2 0 0) (rowA A X2 1 0) (rowA A X2 2 0) r c := by
  refine canon_triple 0 (by omega) _ _ _ _ _ _ [] _ _ _ (fun r c => ?_) (fun r c => ?_) (fun r c => ?_) r c
  · rw [pay9_at, dot_sum A X2 _ 1 0 (weights_at X2 1 0 (by omega) (by omega) _)]
  · rw [pay11_at, step, low_sum A X2 _ 0 0 (weights_at X2 0 0 (by omega) (by omega) _), read_at 0 64 448 (by omega) (by omega)]
  · rw [pay12_at, step, high_sum A X2 _ 2 0 (weights_at X2 2 0 (by omega) (by omega) _), read_at 0 0 448 (by omega) (by omega)]
theorem plane1 (r : Fin 512) (c : Fin 640) : View.canon (L6 A X2) (ix3 (1 : Fin 3) r c)
    = plane (rowA A X2 0 1) (rowA A X2 1 1) (rowA A X2 2 1) r c := by
  refine canon_triple 1 (by omega) _ _ _ _ _ _ (L3 A X2) _ _ _ (fun r c => ?_) (fun r c => ?_) (fun r c => ?_) r c
  · rw [pay13_at, dot_sum A X2 _ 1 1 (weights_at X2 1 1 (by omega) (by omega) _)]
  · rw [pay16_at, step, low_sum A X2 _ 0 1 (weights_at X2 0 1 (by omega) (by omega) _), read_at 1 64 448 (by omega) (by omega)]
  · rw [pay17_at, step, high_sum A X2 _ 2 1 (weights_at X2 2 1 (by omega) (by omega) _), read_at 1 0 448 (by omega) (by omega)]
theorem plane2 (r : Fin 512) (c : Fin 640) : View.canon (L9 A X2) (ix3 (2 : Fin 3) r c)
    = plane (rowA A X2 0 2) (rowA A X2 1 2) (rowA A X2 2 2) r c := by
  refine canon_triple 2 (by omega) _ _ _ _ _ _ (L6 A X2) _ _ _ (fun r c => ?_) (fun r c => ?_) (fun r c => ?_) r c
  · rw [pay18_at, dot_sum A X2 _ 1 2 (weights_at X2 1 2 (by omega) (by omega) _)]
  · refine (pay20_at _ _ _ _ _ _ (constant S448x640 .f32 0x00000000#32) (fun _ => Ideal.ofBits_zero_f32)).trans ?_
    rw [step, low_sum A X2 _ 0 2 (weights_at X2 0 2 (by omega) (by omega) _), read_at 2 64 448 (by omega) (by omega)]
  · rw [pay21_at, step, high_sum A X2 _ 2 2 (weights_at X2 2 2 (by omega) (by omega) _), read_at 2 0 448 (by omega) (by omega)]

/-- The planes of the finished accumulator. -/
abbrev acc0 : Vec Ideal S1x512x640 .f32 := (View.whole (sig := sig) cc0_scratch0).readCov (Val := Elt Ideal) (L9 A X2)
  (Rect.unit (s := S3x512x640) ![0, 0, 0] ![1, 512, 640] inb_S3x512x640_S1x512x640_0_0_0).toLoadRect
abbrev acc1 : Vec Ideal S1x512x640 .f32 := (View.whole (sig := sig) cc0_scratch0).readCov (Val := Elt Ideal) (L9 A X2)
  (Rect.unit (s := S3x512x640) ![1, 0, 0] ![1, 512, 640] inb_S3x512x640_S1x512x640_1_0_0).toLoadRect
abbrev acc2 : Vec Ideal S1x512x640 .f32 := (View.whole (sig := sig) cc0_scratch0).readCov (Val := Elt Ideal) (L9 A X2)
  (Rect.unit (s := S3x512x640) ![2, 0, 0] ![1, 512, 640] inb_S3x512x640_S1x512x640_2_0_0).toLoadRect

theorem zero_add_fin (r : Fin 512) (h : 0 + r.val < 512) : (⟨0 + r.val, h⟩ : Fin 512) = r := Fin.ext (Nat.zero_add _)

theorem acc0_at (r : Fin 512) (c : Fin 640) : acc0 A X2 (ix3 (0 : Fin 1) r c) = plane (rowA A X2 0 0) (rowA A X2 1 0) (rowA A X2 2 0) r c := by
  rw [← plane0, acc0, read_at 0 0 512 (by omega) (by omega), zero_add_fin]
  unfold L9 L8 L7 L6 L5 L4
  rw [canon_plane 2 0 448, canon_plane 2 64 448, canon_plane 2 0 512, canon_plane 1 0 448, canon_plane 1 64 448, canon_plane 1 0 512]
  · rfl
  all_goals exact Or.inl (by decide)
theorem acc1_at (r : Fin 512) (c : Fin 640) : acc1 A X2 (ix3 (0 : Fin 1) r c) = plane (rowA A X2 0 1) (rowA A X2 1 1) (rowA A X2 2 1) r c := by
  rw [← plane1, acc1, read_at 1 0 512 (by omega) (by omega), zero_add_fin]
  unfold L9 L8 L7
  rw [canon_plane 2 0 448, canon_plane 2 64 448, canon_plane 2 0 512]
  · rfl
  all_goals exact Or.inl (by decide)
theorem acc2_at (r : Fin 512) (c : Fin 640) : acc2 A X2 (ix3 (0 : Fin 1) r c) = plane (rowA A X2 0 2) (rowA A X2 1 2) (rowA A X2 2 2) r c := by
  rw [← plane2, acc2, read_at 2 0 512 (by omega) (by omega), zero_add_fin]
  rfl
end

/-! ## The payloads after the accumulator -/

/-- The column of each row of the image. -/
abbrev xm : IVec S512x1 32 := k0_pay7 64#32 k0_pay3 k0_pay4 k0_pay5 k0_pay6

theorem xm_at (r : Fin 512) : xm (ix2 r (0 : Fin 1)) = BitVec.ofNat 32 (r.val % 64) := by
  pointwise [xm, k0_pay7, k0_pay3, k0_pay4, k0_pay5, k0_pay6]
  revert r
  decide +kernel

theorem is_zero (n : ℕ) (h : n < 64) (a b : EReal) : Scalar.select (IntOp.cmpi .eq (BitVec.ofNat 32 n) 0#32) a b = if n = 0 then a else b := by
  have e : ∀ n : Fin 64, IntOp.cmpi .eq (BitVec.ofNat 32 n.val) 0#32 = if n.val = 0 then 1#1 else 0#1 := by decide +kernel
  rw [show IntOp.cmpi .eq (BitVec.ofNat 32 n) 0#32 = _ from e ⟨n, h⟩]
  by_cases g : n = 0
  · rw [if_pos g, if_pos g]; rfl
  · rw [if_neg g, if_neg g]; rfl
theorem is_last (n : ℕ) (h : n < 64) (a b : EReal) : Scalar.select (IntOp.cmpi .eq (BitVec.ofNat 32 n) 63#32) a b = if n = 63 then a else b := by
  have e : ∀ n : Fin 64, IntOp.cmpi .eq (BitVec.ofNat 32 n.val) 63#32 = if n.val = 63 then 1#1 else 0#1 := by decide +kernel
  rw [show IntOp.cmpi .eq (BitVec.ofNat 32 n) 63#32 = _ from e ⟨n, h⟩]
  by_cases g : n = 63
  · rw [if_pos g, if_pos g]; rfl
  · rw [if_neg g, if_neg g]; rfl

/-- The plane shifted down by one pixel, with nothing coming in at the first column. -/
theorem left_at (v : IVec S512x1 32) (h : ∀ r : Fin 512, v (ix2 r (0 : Fin 1)) = BitVec.ofNat 32 (r.val % 64)) (P : Vec Ideal S1x512x640 .f32) (r : Fin 512) (c : Fin 640) :
    k0_pay22 v P (ix2 r c) = if h : r.val % 64 = 0 then 0 else P (ix3 (0 : Fin 1) (⟨r.val - 1, by omega⟩ : Fin 512) c) := by
  pointwise [k0_pay22]
  rw [h, is_zero _ (by omega)]
  split
  · rfl
  · exact congrArg (fun q => P (ix3 (0 : Fin 1) q c)) (Fin.ext (by show (r.val + 512 - 1) % 512 = r.val - 1; omega))

theorem last_at (v : IVec S512x1 32) (h : ∀ r : Fin 512, v (ix2 r (0 : Fin 1)) = BitVec.ofNat 32 (r.val % 64)) (r : Fin 512) :
    k0_pay23 v (ix2 r (0 : Fin 1)) = IntOp.cmpi .eq (BitVec.ofNat 32 (r.val % 64)) 63#32 := by
  rw [← h]
  pointwise [k0_pay23]

theorem z_at (v140 : FVec Ideal S512x640 .f32) (v142 : IVec S512x1 1) (hv : ∀ r : Fin 512, v142 (ix2 r (0 : Fin 1)) = IntOp.cmpi .eq (BitVec.ofNat 32 (r.val % 64)) 63#32)
   (v143 v150 : Vec Ideal S1x512x640 .f32) (v154 v158 : Vec Ideal S1x640 .f32) (v162 v166 v170 : Vec Ideal S1x1x640 .f32) (v174 v178 : Vec Ideal S1x640 .f32)
   (r : Fin 512) (c : Fin 640) (q : EReal) (hq : v140 (ix2 r c) + v150 (ix3 (0 : Fin 1) r c)
     + (if h : r.val % 64 = 63 then 0 else v143 (ix3 (0 : Fin 1) (⟨r.val + 1, by omega⟩ : Fin 512) c)) = q) :
   k0_pay24 v140 v142 v143 v150 v154 v158 v162 v166 v170 v174 v178 (ix2 r c)
     = norm q (v154 (ix2 (0 : Fin 1) c)) (v158 (ix2 (0 : Fin 1) c)) (v162 (ix3 (0 : Fin 1) (0 : Fin 1) c)) (v166 (ix3 (0 : Fin 1) (0 : Fin 1) c))
       (v170 (ix3 (0 : Fin 1) (0 : Fin 1) c)) (v174 (ix2 (0 : Fin 1) c)) (v178 (ix2 (0 : Fin 1) c)) := by
  have e : Scalar.select (v142 (ix2 r (0 : Fin 1))) 0 (v143 (ix3 (0 : Fin 1) (⟨(r.val + 512 - 511) % 512, by omega⟩ : Fin 512) c))
      = (if h : r.val % 64 = 63 then 0 else v143 (ix3 (0 : Fin 1) (⟨r.val + 1, by omega⟩ : Fin 512) c)) := by
    rw [hv, is_last _ (by omega)]
    split
    · rfl
    · exact congrArg (fun q => v143 (ix3 (0 : Fin 1) q c)) (Fin.ext (by show (r.val + 512 - 511) % 512 = r.val + 1; omega))
  rw [← hq, ← e]
  pointwise [k0_pay24]

theorem silu_at (Z : FVec Ideal S512x640 .f32) (r : Fin 512) (c : Fin 640) : k0_pay25 Z (ix2 r c) = Z (ix2 r c) * Ideal.logistic (Z (ix2 r c)) := by
  rw [← silu_eq]
  pointwise [k0_pay25]

theorem word_at (Z : FVec Ideal S512x640 .f32) (r : Fin 512) :
    k0_pay26 Z (ix2 r (0 : Fin 1)) = word (largest fun c => k0_pay25 Z (ix2 r c)) ((largest fun c => k0_pay25 Z (ix2 r c)) * Ideal.ofBits .f32 0x3B124925#32) := by
  unfold k0_pay26
  generalize k0_pay25 Z = Y
  pointwise []

theorem pattern_at (Z : FVec Ideal S512x640 .f32) (r : Fin 512) :
    k0_pay27 Z (ix2 r (0 : Fin 1)) = Ideal.ofBits .f32 (IntOp.shli .vector (IntOp.addi 127#32 (k0_pay26 Z (ix2 r (0 : Fin 1)))) 23#32) := by
  unfold k0_pay27
  generalize k0_pay26 Z = Y
  pointwise []

theorem clipped_at (Z : FVec Ideal S512x640 .f32) (r : Fin 512) (c : Fin 640) :
    k0_pay28 Z (ix2 r c) = max (Ideal.ofBits .f32 0xC3E00000#32) (k0_pay25 Z (ix2 r c)
      * Ideal.ofBits .f32 (IntOp.shli .vector (IntOp.subi 127#32 (k0_pay26 Z (ix2 r (0 : Fin 1)))) 23#32)) := by
  unfold k0_pay28
  generalize k0_pay25 Z = X
  generalize k0_pay26 Z = Y
  pointwise []

theorem codes_at (V U : FVec Ideal S512x640 .f32) (z : Fin 1) (r : Fin 512) (c : Fin 640) :
    k0_pay31 V U (ix3 z r c) = min (U (ix2 r c)) (V (ix2 r c)) := by
  pointwise [k0_pay31, k0_pay30]
theorem top_at (r : Fin 512) (c : Fin 640) : k0_pay29 (F := Ideal) (ix2 r c) = Ideal.ofBits .f32 0x43E00000#32 := rfl
theorem a2_at (S : FVec Ideal S512x1 .f32) (V U : FVec Ideal S512x640 .f32) (z : Fin 1) (r : Fin 512) (c : Fin 640) :
    k0_pay32 S V U (ix3 z r c) = min (U (ix2 r c)) (V (ix2 r c)) * S (ix2 r (0 : Fin 1)) := by
  pointwise [k0_pay32, k0_pay30]

theorem srow0 (S : FVec Ideal S512x1 .f32) (a b d : Fin 1) (l : Fin 128) : k0_pay33 S (ix4 a b d l) = S (ix2 (⟨l.val, by omega⟩ : Fin 512) (0 : Fin 1)) := by
  pointwise [k0_pay33]
theorem srow1 (S : FVec Ideal S512x1 .f32) (a b d : Fin 1) (l : Fin 128) : k0_pay34 S (ix4 a b d l) = S (ix2 (⟨128 + l.val, by omega⟩ : Fin 512) (0 : Fin 1)) := by
  pointwise [k0_pay34]
theorem srow2 (S : FVec Ideal S512x1 .f32) (a b d : Fin 1) (l : Fin 128) : k0_pay35 S (ix4 a b d l) = S (ix2 (⟨256 + l.val, by omega⟩ : Fin 512) (0 : Fin 1)) := by
  pointwise [k0_pay35]
theorem srow3 (S : FVec Ideal S512x1 .f32) (a b d : Fin 1) (l : Fin 128) : k0_pay1 (k0_pay36 S) (ix4 a b d l) = S (ix2 (⟨384 + l.val, by omega⟩ : Fin 512) (0 : Fin 1)) := by
  pointwise [k0_pay1, k0_pay36]

/-- The dequantised activations of one image. -/
theorem a1_at (v0 v6 v12 v18 : Vec Ideal S1x1x1x128 .f32) (C : Vec Ideal S1x512x1920 .fp8e4m3) (s : Fin 512 → EReal)
    (h0 : ∀ l : Fin 128, v0 (ix4 (0 : Fin 1) (0 : Fin 1) (0 : Fin 1) l) = s ⟨l.val, by omega⟩)
    (h1 : ∀ l : Fin 128, v6 (ix4 (0 : Fin 1) (0 : Fin 1) (0 : Fin 1) l) = s ⟨128 + l.val, by omega⟩)
    (h2 : ∀ l : Fin 128, v12 (ix4 (0 : Fin 1) (0 : Fin 1) (0 : Fin 1) l) = s ⟨256 + l.val, by omega⟩)
    (h3 : ∀ l : Fin 128, v18 (ix4 (0 : Fin 1) (0 : Fin 1) (0 : Fin 1) l) = s ⟨384 + l.val, by omega⟩)
    (r : Fin 512) (k : Fin 1920) : k0_pay8 (k0_pay2 v0 v6 v12 v18) C (ix2 r k) = C (ix3 (0 : Fin 1) r k) * s r := by
  pointwise [k0_pay8, k0_pay2]
  congr 1
  split
  · rw [h0]
  split
  · rw [h1]; exact congrArg s (Fin.ext (by show 128 + (r.val - 128) = r.val; omega))
  split
  · rw [h2]; exact congrArg s (Fin.ext (by show 256 + (r.val - 128 - 128) = r.val; omega))
  · rw [h3]; exact congrArg s (Fin.ext (by show 384 + (r.val - 128 - 128 - 128) = r.val; omega))
end Cert.Conv1
-- ==== Proof.ConvBlocks.lean ====
/-
  One grid point of the convolution kernel against the reference: given that its blocks hold the right parts of the argument
  arrays, each value the body forms is the value of ConvSpec for its image; and that the blocks do hold them.
-/
module

public import proofs.«01_k».proof.Proof.Gen.ConvIdeal.Value
public import proofs.«01_k».proof.Proof.Gen.ConvRefIdeal.Value
public import proofs.«01_k».proof.Proof.Quantiser
public import proofs.«01_k».proof.Proof.ConvPayloads
public import Idealize.ShloMosaic.Lib.Pointwise
public import Idealize.ShloMosaic.Lib.Pipeline.ValueKit

@[expose] public section

set_option maxRecDepth 16384

noncomputable section
namespace Cert.Conv1
open Idealize.ShloMosaic Idealize.ShloMosaic.TcCoe Cert.Quantiser
open Cert.ConvIdeal Cert.ConvIdeal.Gen

section Core
variable (X0 : Vec Ideal S1x512x1920 .fp8e4m3) (X1 : Vec Ideal S1x4x1x128 .f32) (X2 : Vec Ideal S3x3x1920x640 .fp8e4m3)
  (X3 X4 : Vec Ideal S1x640 .f32) (X5 X6 X7 : Vec Ideal S1x1x640 .f32) (X8 X9 : Vec Ideal S1x640 .f32)

/-- The dequantised image, as the kernel forms it from its blocks. -/
abbrev a1 : Vec Ideal S512x1920 .bf16 := k0_pay8 (k0_pay2
  (View.ld X1 (Rect.unit (s := S1x4x1x128) ![0, 0, 0, 0] ![1, 1, 1, 128] inb_S1x4x1x128_S1x1x1x128_0_0_0_0))
  (View.ld X1 (Rect.unit (s := S1x4x1x128) ![0, 1, 0, 0] ![1, 1, 1, 128] inb_S1x4x1x128_S1x1x1x128_0_1_0_0))
  (View.ld X1 (Rect.unit (s := S1x4x1x128) ![0, 2, 0, 0] ![1, 1, 1, 128] inb_S1x4x1x128_S1x1x1x128_0_2_0_0))
  (View.ld X1 (Rect.unit (s := S1x4x1x128) ![0, 3, 0, 0] ![1, 1, 1, 128] inb_S1x4x1x128_S1x1x1x128_0_3_0_0))) X0

/-- The normalised sum, as the kernel forms it from its blocks. -/
abbrev zk : FVec Ideal S512x640 .f32 :=
  k0_pay24 (k0_pay22 xm (acc0 (a1 X0 X1) X2)) (k0_pay23 xm) (acc2 (a1 X0 X1) X2) (acc1 (a1 X0 X1) X2) X3 X4 X5 X6 X7 X8 X9

/-- One row of scales. -/
theorem scales_at (i : ℕ) (hi : i < 4) (inb) (l : Fin 128) :
    View.ld X1 (Rect.unit (s := S1x4x1x128) ![0, i, 0, 0] ![1, 1, 1, 128] inb) (ix4 (0 : Fin 1) (0 : Fin 1) (0 : Fin 1) l)
      = X1 (ix4 (0 : Fin 1) (⟨i, hi⟩ : Fin 4) (0 : Fin 1) l) := by
  show X1 _ = X1 _
  refine congrArg X1 (funext fun a => Fin.ext ?_)
  match a with
  | ⟨0, _⟩ => show 0 + 1 * 0 = 0; omega
  | ⟨1, _⟩ => show i + 1 * 0 = i; omega
  | ⟨2, _⟩ => show 0 + 1 * 0 = 0; omega
  | ⟨3, _⟩ => show 0 + 1 * l.val = l.val; omega

variable (x : Vec Ideal S4x512x1920 .fp8e4m3) (s : Vec Ideal S4x512 .f32) (w : Vec Ideal S3x3x1920x640 .fp8e4m3)
  (ws b1 : Vec Ideal S640 .f32) (te : Vec Ideal S4x640 .f32) (mu rs : Vec Ideal S4x32 .f32) (ga be : Vec Ideal S640 .f32) (b : Fin 4)

/-- The blocks are image `b` of the argument arrays. -/
structure Blocks : Prop where
  h0 : ∀ (r : Fin 512) (k : Fin 1920), X0 (ix3 (0 : Fin 1) r k) = x (ix3 b r k)
  h1 : ∀ (i : Fin 4) (l : Fin 128), X1 (ix4 (0 : Fin 1) i (0 : Fin 1) l) = s (ix2 b (⟨i.val * 128 + l.val, by omega⟩ : Fin 512))
  h2 : ∀ (ky kx : Fin 3) (k : Fin 1920) (c : Fin 640), X2 (ix4 ky kx k c) = w (ix4 ky kx k c)
  h3 : ∀ c : Fin 640, X3 (ix2 (0 : Fin 1) c) = ws (ix1 c)
  h4 : ∀ c : Fin 640, X4 (ix2 (0 : Fin 1) c) = b1 (ix1 c)
  h5 : ∀ c : Fin 640, X5 (ix3 (0 : Fin 1) (0 : Fin 1) c) = te (ix2 b c)
  h6 : ∀ c : Fin 640, X6 (ix3 (0 : Fin 1) (0 : Fin 1) c) = mu (ix2 b (⟨c.val / 20, by omega⟩ : Fin 32))
  h7 : ∀ c : Fin 640, X7 (ix3 (0 : Fin 1) (0 : Fin 1) c) = rs (ix2 b (⟨c.val / 20, by omega⟩ : Fin 32))
  h8 : ∀ c : Fin 640, X8 (ix2 (0 : Fin 1) c) = ga (ix1 c)
  h9 : ∀ c : Fin 640, X9 (ix2 (0 : Fin 1) c) = be (ix1 c)

variable {X0 X1 X2 X3 X4 X5 X6 X7 X8 X9 x s w ws b1 te mu rs ga be b} (H : Blocks X0 X1 X2 X3 X4 X5 X6 X7 X8 X9 x s w ws b1 te mu rs ga be b)
include H

theorem a1_eq (r : Fin 512) (k : Fin 1920) : a1 X0 X1 (ix2 r k) = x (ix3 b r k) * s (ix2 b r) := by
  refine (a1_at _ _ _ _ X0 (fun r => s (ix2 b r)) (fun l => ?_) (fun l => ?_) (fun l => ?_) (fun l => ?_) r k).trans (by rw [H.h0])
  · rw [scales_at X1 0 (by omega), H.h1]
    exact congrArg (fun q => s (ix2 b q)) (Fin.ext (by show 0 * 128 + l.val = l.val; omega))
  · rw [scales_at X1 1 (by omega), H.h1]; rfl
  · rw [scales_at X1 2 (by omega), H.h1]; rfl
  · rw [scales_at X1 3 (by omega), H.h1]; rfl

theorem row_eq (ky kx : Fin 3) : rowA (a1 X0 X1) X2 ky kx = row x s w b ky kx :=
  funext fun r => funext fun c => Finset.sum_congr rfl fun k _ => by rw [a1_eq H, H.h2]

theorem z_eq (r : Fin 512) (c : Fin 640) : zk X0 X1 X2 X3 X4 X5 X6 X7 X8 X9 (ix2 r c) = zz x s w ws b1 te mu rs ga be b r c := by
  refine (z_at _ _ (last_at xm xm_at) _ _ _ _ _ _ _ _ _ r c (conv x s w b r c) ?_).trans ?_
  · rw [left_at xm xm_at, ← planes_conv]
    simp only [acc0_at, acc1_at, acc2_at, row_eq H]
  · rw [H.h3, H.h4, H.h5, H.h6, H.h7, H.h8, H.h9]

theorem act_eq (r : Fin 512) (c : Fin 640) : k0_pay25 (zk X0 X1 X2 X3 X4 X5 X6 X7 X8 X9) (ix2 r c) = act x s w ws b1 te mu rs ga be b r c := by
  rw [silu_at, z_eq H]

theorem word_eq (r : Fin 512) : k0_pay26 (zk X0 X1 X2 X3 X4 X5 X6 X7 X8 X9) (ix2 r (0 : Fin 1))
    = word (largest (act x s w ws b1 te mu rs ga be b r)) (largest (act x s w ws b1 te mu rs ga be b r) * Ideal.ofBits .f32 0x3B124925#32) := by
  rw [word_at, show (fun c => k0_pay25 (zk X0 X1 X2 X3 X4 X5 X6 X7 X8 X9) (ix2 r c)) = act x s w ws b1 te mu rs ga be b r from funext fun c => act_eq H r c]

theorem scale_eq (r : Fin 512) : k0_pay27 (zk X0 X1 X2 X3 X4 X5 X6 X7 X8 X9) (ix2 r (0 : Fin 1))
    = Ideal.exp2 (pixelExpo x s w ws b1 te mu rs ga be b r) := by
  rw [pattern_at, word_eq H, kernel_scale _ _ (scaled_pos _)]

theorem code_eq (r : Fin 512) (c : Fin 640) :
    min (k0_pay29 (F := Ideal) (ix2 r c)) (k0_pay28 (zk X0 X1 X2 X3 X4 X5 X6 X7 X8 X9) (ix2 r c)) = code x s w ws b1 te mu rs ga be b r c := by
  rw [top_at, clipped_at, act_eq H, word_eq H, kernel_inv _ _ (scaled_pos _)]

theorem codes_eq (z : Fin 1) (r : Fin 512) (c : Fin 640) : k0_pay31 (k0_pay28 (zk X0 X1 X2 X3 X4 X5 X6 X7 X8 X9)) k0_pay29 (ix3 z r c) = code x s w ws b1 te mu rs ga be b r c := by
  rw [codes_at, code_eq H]

theorem a2_eq (z : Fin 1) (r : Fin 512) (c : Fin 640) :
    k0_pay32 (k0_pay27 (zk X0 X1 X2 X3 X4 X5 X6 X7 X8 X9)) (k0_pay28 (zk X0 X1 X2 X3 X4 X5 X6 X7 X8 X9)) k0_pay29 (ix3 z r c)
      = code x s w ws b1 te mu rs ga be b r c * Ideal.exp2 (pixelExpo x s w ws b1 te mu rs ga be b r) := by
  rw [a2_at, code_eq H, scale_eq H]
end Core

variable (m : (ℓ : Loc nD τ sig) → Buf (Elt Ideal) ℓ)

/-- The block each window holds at a point of the grid: point `t` is image `t`. -/
theorem idx : ∀ t : Fin cfg0.N, win0_0.index t = ![t.val, 0, 0] ∧ win0_1.index t = ![t.val, 0, 0, 0]
    ∧ win0_2.index t = ![0, 0, 0, 0] ∧ win0_3.index t = ![0, 0] ∧ win0_4.index t = ![0, 0] ∧ win0_5.index t = ![t.val, 0, 0]
    ∧ win0_6.index t = ![t.val, 0, 0] ∧ win0_7.index t = ![t.val, 0, 0] ∧ win0_8.index t = ![0, 0] ∧ win0_9.index t = ![0, 0]
    ∧ win0_10.index t = ![t.val, 0, 0] ∧ win0_11.index t = ![t.val, 0, 0, 0] ∧ win0_12.index t = ![t.val, 0, 0] :=
  (by decide +kernel : ∀ t : Fin grid0.N, _)

/-- The argument arrays. -/
abbrev A0 (c : Dev nD) : Vec Ideal S4x512x1920 .fp8e4m3 := m ((c : Thread nD τ).loc main_arg0)
abbrev A1 (c : Dev nD) : Vec Ideal S4x512 .f32 := m ((c : Thread nD τ).loc main_arg1)
abbrev A2 (c : Dev nD) : Vec Ideal S3x3x1920x640 .fp8e4m3 := m ((c : Thread nD τ).loc main_arg2)
abbrev A3 (c : Dev nD) : Vec Ideal S640 .f32 := m ((c : Thread nD τ).loc main_arg3)
abbrev A4 (c : Dev nD) : Vec Ideal S640 .f32 := m ((c : Thread nD τ).loc main_arg4)
abbrev A5 (c : Dev nD) : Vec Ideal S4x640 .f32 := m ((c : Thread nD τ).loc main_arg5)
abbrev A6 (c : Dev nD) : Vec Ideal S4x32 .f32 := m ((c : Thread nD τ).loc main_arg6)
abbrev A7 (c : Dev nD) : Vec Ideal S4x32 .f32 := m ((c : Thread nD τ).loc main_arg7)
abbrev A8 (c : Dev nD) : Vec Ideal S640 .f32 := m ((c : Thread nD τ).loc main_arg8)
abbrev A9 (c : Dev nD) : Vec Ideal S640 .f32 := m ((c : Thread nD τ).loc main_arg9)

/-- The input blocks at point `t` are image `t` of the argument arrays. -/
theorem blocks (c : Dev nD) (t : Fin cfg0.N) (b : Fin 4) (hb : (b : ℕ) = t.val) :
    Blocks (iblk m c 0 t) (iblk m c 1 t) (iblk m c 2 t) (iblk m c 3 t) (iblk m c 4 t) (iblk m c 5 t) (iblk m c 6 t) (iblk m c 7 t) (iblk m c 8 t) (iblk m c 9 t)
      (A0 m c) (A1 m c) (A2 m c) (A3 m c) (A4 m c) (A5 m c) (A6 m c) (A7 m c) (A8 m c) (A9 m c) b where
  h0 r k := by blk_point [iblk, V, idx t]
  h1 i l := by
    blk_simp [iblk]
    entry_read
    pointwise []
    blk_point [idx t]
  h2 ky kx k c' := by blk_point [iblk, V, idx t]
  h3 k := by
    blk_simp [iblk]
    entry_read
    pointwise []
    blk_point [idx t]
  h4 k := by
    blk_simp [iblk]
    entry_read
    pointwise []
    blk_point [idx t]
  h5 k := by
    blk_simp [iblk]
    entry_read
    pointwise []
    blk_point [idx t]
  h6 k := by
    blk_simp [iblk]
    entry_read
    pointwise []
    blk_point [idx t]
  h7 k := by
    blk_simp [iblk]
    entry_read
    pointwise []
    blk_point [idx t]
  h8 k := by
    blk_simp [iblk]
    entry_read
    pointwise []
    blk_point [idx t]
  h9 k := by
    blk_simp [iblk]
    entry_read
    pointwise []
    blk_point [idx t]
end Cert.Conv1
-- ==== Proof.ConvFinal.lean ====
/-
  The convolution kernel's final arrays: each of its three output windows ends holding the reference's result.
-/
module

public import proofs.«01_k».proof.Proof.Gen.ConvIdeal.Value
public import proofs.«01_k».proof.Proof.Gen.ConvRefIdeal.Value
public import proofs.«01_k».proof.Proof.Quantiser
public import proofs.«01_k».proof.Proof.ConvBlocks
public import Idealize.ShloMosaic.Lib.Pointwise
public import Idealize.ShloMosaic.Lib.Pipeline.ValueKit

@[expose] public section

set_option maxRecDepth 16384

noncomputable section
namespace Cert.Conv1
open Idealize.ShloMosaic Idealize.ShloMosaic.TcCoe Cert.Quantiser
open Cert.ConvIdeal Cert.ConvIdeal.Gen

variable (m : (ℓ : Loc nD τ sig) → Buf (Elt Ideal) ℓ)

/-- The reference's results of the argument arrays. -/
abbrev Codes (c : Dev nD) : Vec Ideal S4x512x640 .fp8e4m3 :=
  Cert.ConvRefIdeal.Value.G10 (A0 m c) (A1 m c) (A2 m c) (A3 m c) (A4 m c) (A5 m c) (A6 m c) (A7 m c) (A8 m c) (A9 m c)
abbrev Scales (c : Dev nD) : Vec Ideal S4x4x1x128 .f32 :=
  Cert.ConvRefIdeal.Value.G11 (A0 m c) (A1 m c) (A2 m c) (A3 m c) (A4 m c) (A5 m c) (A6 m c) (A7 m c) (A8 m c) (A9 m c)
abbrev Acts (c : Dev nD) : Vec Ideal S4x512x640 .bf16 :=
  Cert.ConvRefIdeal.Value.G12 (A0 m c) (A1 m c) (A2 m c) (A3 m c) (A4 m c) (A5 m c) (A6 m c) (A7 m c) (A8 m c) (A9 m c)

theorem point10 (c : Dev nD) (t : Fin cfg0.N) (y : S1x512x640.Idx) (j : S4x512x640.Idx)
    (h0 : (j 0 : ℕ) = t.val + y 0) (h1 : (j 1 : ℕ) = y 1) (h2 : (j 2 : ℕ) = y 2) :
    (dats m 0 c).after 10 t y = Codes m c j := by
  rw [after0_10]; unfold outsAt0
  frame_out
  idx_vars y
  idx_vars j
  have h0' : (j0 : ℕ) = t.val := by have : (y0 : ℕ) < 1 := y0.isLt; have : (j0 : ℕ) = t.val + y0 := h0; omega
  obtain rfl : j1 = y1 := Fin.ext h1
  obtain rfl : j2 = y2 := Fin.ext h2
  exact (codes_eq (blocks m c t j0 h0') y0 j1 j2).trans (ref_codes (A0 m c) (A1 m c) (A2 m c) (A3 m c) (A4 m c) (A5 m c) (A6 m c) (A7 m c) (A8 m c) (A9 m c) j0 j1 j2).symm

theorem point12 (c : Dev nD) (t : Fin cfg0.N) (y : S1x512x640.Idx) (j : S4x512x640.Idx)
    (h0 : (j 0 : ℕ) = t.val + y 0) (h1 : (j 1 : ℕ) = y 1) (h2 : (j 2 : ℕ) = y 2) :
    (dats m 0 c).after 12 t y = Acts m c j := by
  rw [after0_12]; unfold outsAt0
  frame_out
  idx_vars y
  idx_vars j
  have h0' : (j0 : ℕ) = t.val := by have : (y0 : ℕ) < 1 := y0.isLt; have : (j0 : ℕ) = t.val + y0 := h0; omega
  obtain rfl : j1 = y1 := Fin.ext h1
  obtain rfl : j2 = y2 := Fin.ext h2
  exact (a2_eq (blocks m c t j0 h0') y0 j1 j2).trans (ref_a2 (A0 m c) (A1 m c) (A2 m c) (A3 m c) (A4 m c) (A5 m c) (A6 m c) (A7 m c) (A8 m c) (A9 m c) j0 j1 j2).symm

theorem final10 (c : Dev nD) : (dats m 0 c).arrAt 10 (cfgs 0).N = Codes m c := by
  refine (dats m 0 c).arrAt_eq_of_covers 10 _ (by decide +kernel) fun t _ y => ?_
  blk_simp
  refine point10 m c t y _ ?_ ?_ ?_
  all_goals (blk_simp [idx t] <;> try omega)

theorem final12 (c : Dev nD) : (dats m 0 c).arrAt 12 (cfgs 0).N = Acts m c := by
  refine (dats m 0 c).arrAt_eq_of_covers 12 _ (by decide +kernel) fun t _ y => ?_
  blk_simp
  refine point12 m c t y _ ?_ ?_ ?_
  all_goals (blk_simp [idx t] <;> try omega)

/-- A row of scales read against the reference's scale of the same pixel. -/
theorem scale_point (c : Dev nD) (t : Fin cfg0.N) (r : Fin 512) (j : S4x4x1x128.Idx) (h0 : (j 0 : ℕ) = t.val) (hr : (r : ℕ) = (j 1 : ℕ) * 128 + (j 3 : ℕ)) :
    k0_pay27 (zk (iblk m c 0 t) (iblk m c 1 t) (iblk m c 2 t) (iblk m c 3 t) (iblk m c 4 t) (iblk m c 5 t) (iblk m c 6 t) (iblk m c 7 t) (iblk m c 8 t) (iblk m c 9 t))
      (ix2 r (0 : Fin 1)) = Scales m c j := by
  idx_vars j
  obtain rfl : j2 = 0 := Subsingleton.elim _ _
  have l1 : (j1 : ℕ) < 4 := j1.isLt
  have l3 : (j3 : ℕ) < 128 := j3.isLt
  have hlt : j1.val * 128 + j3.val < 512 := by omega
  obtain rfl : r = ⟨j1.val * 128 + j3.val, hlt⟩ := Fin.ext hr
  exact (scale_eq (blocks m c t j0 h0) _).trans (ref_scale (A0 m c) (A1 m c) (A2 m c) (A3 m c) (A4 m c) (A5 m c) (A6 m c) (A7 m c) (A8 m c) (A9 m c) j0 j1 j3).symm

/-- The kernel's four rows of scales. -/
theorem point11 (c : Dev nD) (t : Fin cfg0.N) (y : S1x4x1x128.Idx) (j : S4x4x1x128.Idx)
    (h0 : (j 0 : ℕ) = t.val + y 0) (h1 : (j 1 : ℕ) = y 1) (h3 : (j 3 : ℕ) = y 3) :
    (dats m 0 c).after 11 t y = Scales m c j := by
  rw [after0_11]; unfold outsAt0
  frame_out
  have E : ∃ Z, Z = zk (iblk m c 0 t) (iblk m c 1 t) (iblk m c 2 t) (iblk m c 3 t) (iblk m c 4 t) (iblk m c 5 t) (iblk m c 6 t) (iblk m c 7 t) (iblk m c 8 t) (iblk m c 9 t) := ⟨_, rfl⟩
  obtain ⟨Z, hZ⟩ := E
  simp only [← hZ]
  have key : ∀ r : Fin 512, (r : ℕ) = (j 1 : ℕ) * 128 + (j 3 : ℕ) → k0_pay27 Z (ix2 r (0 : Fin 1)) = Scales m c j := fun r hr => by
    rw [hZ]
    exact scale_point m c t r j (by have : (y 0 : ℕ) < 1 := (y 0).isLt; omega) hr
  clear hZ
  canon_tiles x h
  · idx_vars x
    exact (srow3 _ x0 x1 x2 x3).trans (key _ (by dsimp at *; omega))
  · idx_vars x
    exact (srow2 _ x0 x1 x2 x3).trans (key _ (by dsimp at *; omega))
  · idx_vars x
    exact (srow1 _ x0 x1 x2 x3).trans (key _ (by dsimp at *; omega))
  · idx_vars x
    exact (srow0 _ x0 x1 x2 x3).trans (key _ (by dsimp at *; omega))

theorem final11 (c : Dev nD) : (dats m 0 c).arrAt 11 (cfgs 0).N = Scales m c := by
  refine (dats m 0 c).arrAt_eq_of_covers 11 _ (by decide +kernel) fun t _ y => ?_
  blk_simp
  refine point11 m c t y _ ?_ ?_ ?_
  all_goals (blk_simp [idx t] <;> try omega)
end Cert.Conv1
-- ==== Proof.BwdRuns.lean ====
/- What the runs of the backward kernel's body share: the offsets of its four reads of the padded gradients in closed
   form (one tap per grid point: column shift `i % 3`, row shift `(2 - i / 3) * 64`), the buffers as the launch finds
   them, the branch conditions over the grid points, the windows' blocks. -/
module

public import proofs.«01_k».proof.Proof.Gen.Bwd.Launch
public import proofs.«01_k».proof.Proof.Gen.Bwd.Skeleton
public import proofs.«01_k».proof.Proof.Gen.Bwd.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Bwd.Run

open Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The offsets of the dynamic reads -/

/-- Where the tap reads image 0 of the padded gradients. -/
theorem k0_off1_eq : ∀ i : grid0.Coords, k0_off1 i = ![(i 0).val % 3, 0, (2 - (i 0).val / 3) * 64, 0] := by decide +kernel
instance closedOff_k0_off1 (i : grid0.Coords) : ClosedOff (k0_off1 i) := ⟨![(i 0).val % 3, 0, (2 - (i 0).val / 3) * 64, 0], k0_off1_eq i⟩
/-- Where the tap reads image 1 of the padded gradients. -/
theorem k0_off2_eq : ∀ i : grid0.Coords, k0_off2 i = ![(i 0).val % 3, 1, (2 - (i 0).val / 3) * 64, 0] := by decide +kernel
instance closedOff_k0_off2 (i : grid0.Coords) : ClosedOff (k0_off2 i) := ⟨![(i 0).val % 3, 1, (2 - (i 0).val / 3) * 64, 0], k0_off2_eq i⟩
/-- Where the tap reads image 2 of the padded gradients. -/
theorem k0_off3_eq : ∀ i : grid0.Coords, k0_off3 i = ![(i 0).val % 3, 2, (2 - (i 0).val / 3) * 64, 0] := by decide +kernel
instance closedOff_k0_off3 (i : grid0.Coords) : ClosedOff (k0_off3 i) := ⟨![(i 0).val % 3, 2, (2 - (i 0).val / 3) * 64, 0], k0_off3_eq i⟩
/-- Where the tap reads image 3 of the padded gradients. -/
theorem k0_off4_eq : ∀ i : grid0.Coords, k0_off4 i = ![(i 0).val % 3, 3, (2 - (i 0).val / 3) * 64, 0] := by decide +kernel
instance closedOff_k0_off4 (i : grid0.Coords) : ClosedOff (k0_off4 i) := ⟨![(i 0).val % 3, 3, (2 - (i 0).val / 3) * 64, 0], k0_off4_eq i⟩

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Bwd`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_1, k0_cond2, e0]
    word_cmp
   : ∀ t : Fin grid0.N, cond0_1 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1x1x640x640 .f32 := (Memref.whole cc0_stg5_0 : Memref sig .tc .vmem S1x1x640x640 .f32).view
/-- One staging buffer of output window 6, through which its contents are stated (`View.read_writes_of_cover`: the
    choice does not matter). -/
abbrev VO0_6 : View sig .tc .vmem S4x512x640 .bf16 := (Memref.whole cc0_stg6_0 : Memref sig .tc .vmem S4x512x640 .bf16).view
/-- Each window's current staging memref at point `t`, spelled as the pipeline passes it (`bodyAt0`), and its wholeness. -/
abbrev ms0_0 (t : Fin cfg0.N) : Memref sig .tc .vmem S4x512x640 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x4x1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512x640 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x640x640 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x640x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x512x640 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3x4x640x640 .bf16 := Memref.whole cc0_scratch0
abbrev scM0_1 : Memref sig .tc .vmem S4x512x640 .f32 := Memref.whole cc0_scratch1
/-- The scratch `arg8` the kernel carries between points, as a view: what it holds is stated through it. -/
abbrev VS0_0 : View sig .tc .vmem S3x4x640x640 .bf16 := scM0_0.view
/-- The scratch `arg9` the kernel carries between points, as a view: what it holds is stated through it. -/
abbrev VS0_1 : View sig .tc .vmem S4x512x640 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Bwd.Run

end
-- ==== Proof.BwdRunA.lean ====
/- The backward kernel's body at the first point: it fills the padded gradients, clears the accumulator and adds the
   first tap. -/
module

public import proofs.«01_k».proof.Proof.BwdRuns

@[expose] public section

-- membership in a rectangle of production extents (`View.cover_of_tiled`): the elaborator's structural look
-- recurses once per coordinate of the long axes
set_option maxRecDepth 16384

noncomputable section

namespace Cert.Bwd.Run

open Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1008000 in
/-- What the body's stores leave in each output's staging memref, as pieces (last first) IN CASE A (`scf.if` 0 taken, `scf.if` 1 not taken: points 0), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) :
    Σ' (L5 : List (View.Piece (Elt F) S1x1x640x640 .f32)), Σ' (L6 : List (View.Piece (Elt F) S4x512x640 .bf16)), Σ' (LS0 : List (View.Piece (Elt F) S3x4x640x640 .bf16)), { LS1 : List (View.Piece (Elt F) S4x512x640 .f32) //
      ∀ (xi6 : Vec F S4x512x640 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc0_bwd_eq_skeleton]; unfold cc0_bwd_skel
    simp only [k0_part15_eq_skeleton, k0_part12_eq_skeleton, k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

end Cert.Bwd.Run

end
-- ==== Proof.BwdRunB.lean ====
/- The backward kernel's body at the points in between: one more tap over what the point before left. -/
module

public import proofs.«01_k».proof.Proof.BwdRunA

@[expose] public section

-- membership in a rectangle of production extents (`View.cover_of_tiled`): the elaborator's structural look
-- recurses once per coordinate of the long axes
set_option maxRecDepth 16384

noncomputable section

namespace Cert.Bwd.Run

open Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 7: 7 of 9), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) :
    Σ' (L5 : List (View.Piece (Elt F) S1x1x640x640 .f32)), Σ' (L6 : List (View.Piece (Elt F) S4x512x640 .bf16)), Σ' (LS0 : List (View.Piece (Elt F) S3x4x640x640 .bf16)), { LS1 : List (View.Piece (Elt F) S4x512x640 .f32) //
      ∀ (xi6 : Vec F S4x512x640 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K } := by
  refine ⟨?_, [], [], ?_, fun xi6 E K => ?run⟩
  case run =>
    simp only [cc0_bwd_eq_skeleton]; unfold cc0_bwd_skel
    simp only [k0_part15_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]
    · iexists _; isplitr; · ipureintro; exact harg8.read_unread _
      iexact HS0
    iexists _; iexact HS1

end Cert.Bwd.Run

end
-- ==== Proof.BwdRunC.lean ====
/- The backward kernel's body at the last point: the last tap, then the input gradient is stored. -/
module

public import proofs.«01_k».proof.Proof.BwdRunB

@[expose] public section

-- membership in a rectangle of production extents (`View.cover_of_tiled`): the elaborator's structural look
-- recurses once per coordinate of the long axes
set_option maxRecDepth 16384

noncomputable section

namespace Cert.Bwd.Run

open Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) :
    Σ' (L5 : List (View.Piece (Elt F) S1x1x640x640 .f32)), Σ' (L6 : List (View.Piece (Elt F) S4x512x640 .bf16)), Σ' (LS0 : List (View.Piece (Elt F) S3x4x640x640 .bf16)), { LS1 : List (View.Piece (Elt F) S4x512x640 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K } := by
  refine ⟨?_, ?_, [], ?_, fun E K => ?run⟩
  case run =>
    simp only [cc0_bwd_eq_skeleton]; unfold cc0_bwd_skel
    simp only [k0_part15_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _; isplitr; · ipureintro; exact harg8.read_unread _
      iexact HS0
    iexists _; iexact HS1

end Cert.Bwd.Run

end
-- ==== Proof.BwdFrame.lean ====
/- The frame of the backward call: what its outputs and its two scratch buffers hold after each point, the body
   obligation, the run, the frame claim. -/
module

public import proofs.«01_k».proof.Proof.BwdRunC
public import Idealize.ShloMosaic.Lib.Claim

@[expose] public section

-- membership in a rectangle of production extents (`View.cover_of_tiled`): the elaborator's structural look
-- recurses once per coordinate of the long axes
set_option maxRecDepth 16384

noncomputable section

namespace Cert.Bwd.Run

open Cert.Bwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (4 stores of `S1x1x640x640`, checked by the kernel's evaluation: Lib/Ring.lean `Piece.tiledL`, linear in the pieces, through a loop's `@[irreducible]` trip theorem too), so they cover it. -/
theorem cover0_A_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (y : S1x1x640x640.Idx) :
    ∃ pc ∈ (kernelRun0_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).1 S1x1x640x640.size (by sl_kernel_rfl) y

/-- What case A leaves in output 5's staging buffer: its pieces read back over junk. -/
def out0_A_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) : Vec F S1x1x640x640 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) : Vec F S4x512x640 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4).2.1)

/-- Case A's pieces for scratch `arg8`, which the kernel carries between points, cover it: 36 pieces (stores and landed copies) of several sizes (`S1x1x512x640`, `S1x1x64x640`) tiling it when cut into blocks of `![1, 1, 64, 640]` (Lib/Ring.lean `Piece.tiledBy`). -/
theorem scover0_A_0 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (y : S3x4x640x640.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledBy (kernelRun0_A c i arg1 harg1 arg2 harg2 arg3 harg3 arg4 harg4 arg5 harg5 arg6 harg6 arg7 harg7 arg8 harg8 arg9 harg9 hc0 hc1 x0 x1 x2 x3 x4).2.2.1 ![1, 1, 64, 640] (by sl_kernel_rfl) y

/-- What case A leaves in scratch `arg8`: its pieces read back over junk. -/
def sout0_A_0 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) : Vec F S3x4x640x640 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).2.2.1)

/-- Case A's pieces for scratch `arg9`, which the kernel carries between points, cover it: one of them a store of the WHOLE buffer (Lib/Ring.lean `sl_whole_mem`). -/
theorem scover0_A_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (y : S4x512x640.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_wholeMem (kernelRun0_A c i arg1 harg1 arg2 harg2 arg3 harg3 arg4 harg4 arg5 harg5 arg6 harg6 arg7 harg7 arg8 harg8 arg9 harg9 hc0 hc1 x0 x1 x2 x3 x4).2.2.2.1 (by sl_whole_mem) y

/-- What case A leaves in scratch `arg9`: its pieces read back over junk. -/
def sout0_A_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) : Vec F S4x512x640 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3 x4).2.2.2.1)

/-- Case B's pieces for output 5 tile its block (4 stores of `S1x1x640x640`, checked by the kernel's evaluation: Lib/Ring.lean `Piece.tiledL`, linear in the pieces, through a loop's `@[irreducible]` trip theorem too), so they cover it. -/
theorem cover0_B_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S1x1x640x640.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).1 S1x1x640x640.size (by sl_kernel_rfl) y

/-- What case B leaves in output 5's staging buffer: its pieces read back over junk. -/
def out0_B_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S1x1x640x640 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xs0 xs1).1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S4x512x640 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 xs0 xs1).2.1)

/-- Case B stores nothing into scratch `arg8`: it holds what the point before left. -/
def sout0_B_0 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S3x4x640x640 .bf16 := xs0

/-- Case B's pieces for scratch `arg9`, which the kernel carries between points, cover it: 4 pieces of `S1x512x640` tiling it (Lib/Ring.lean `Piece.tiledL`). -/
theorem scover0_B_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S4x512x640.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).2.2.2.1 S1x512x640.size (by sl_kernel_rfl) y

/-- What case B leaves in scratch `arg9`: its pieces read back over junk. -/
def sout0_B_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S4x512x640 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 x4 xs0 xs1).2.2.2.1)

/-- Case C's pieces for output 5 tile its block (4 stores of `S1x1x640x640`, checked by the kernel's evaluation: Lib/Ring.lean `Piece.tiledL`, linear in the pieces, through a loop's `@[irreducible]` trip theorem too), so they cover it. -/
theorem cover0_C_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S1x1x640x640.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).1 S1x1x640x640.size (by sl_kernel_rfl) y

/-- What case C leaves in output 5's staging buffer: its pieces read back over junk. -/
def out0_C_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S1x1x640x640 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs1).1)

/-- Case C's pieces for output 6 tile its block (1 store of `S4x512x640`, checked by the kernel's evaluation: Lib/Ring.lean `Piece.tiledL`, linear in the pieces, through a loop's `@[irreducible]` trip theorem too), so they cover it. -/
theorem cover0_C_6 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S4x512x640.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.1 S4x512x640.size (by sl_kernel_rfl) y

/-- What case C leaves in output 6's staging buffer: its pieces read back over junk. -/
def out0_C_6 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S4x512x640 .bf16 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 xs0 xs1).2.1)

/-- Case C stores nothing into scratch `arg8`: it holds what the point before left. -/
def sout0_C_0 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S3x4x640x640 .bf16 := xs0

/-- Case C's pieces for scratch `arg9`, which the kernel carries between points, cover it: 4 pieces of `S1x512x640` tiling it (Lib/Ring.lean `Piece.tiledL`). -/
theorem scover0_C_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S4x512x640.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.2.1 S1x512x640.size (by sl_kernel_rfl) y

/-- What case C leaves in scratch `arg9`: its pieces read back over junk. -/
def sout0_C_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S4x512x640 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 x4 xs0 xs1).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1x640x640 .f32 × Vec F S4x512x640 .bf16 × Vec F S3x4x640x640 .bf16 × Vec F S4x512x640 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 9 = 0 then
      if h1 : (n + 1) % 9 = 8 then
        False.elim (by have hN : n + 1 < 9 := lt_of_lt_of_eq hn (show cfg0.N = 9 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 9 = 8 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 9 = 0) (h1 : ¬t.val % 9 = 8) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 9 = 0) (h1 : ¬t.val % 9 = 8) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 9 = 0) (h1 : t.val % 9 = 8) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases h1 : t.val % 9 = 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_5 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        iexists _; iexact H6
      · exfalso; have hN : t.val < 9 := lt_of_lt_of_eq t.isLt (show cfg0.N = 9 from N_0); omega
  · by_cases h1 : t.val % 9 = 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      by_cases hz : t.val = 0
      · exfalso; have hN : t.val < 9 := lt_of_lt_of_eq t.isLt (show cfg0.N = 9 from N_0); omega
      · rw [PhiS_castSucc m c t, PhiS_pos m c _ _ hz]
        rw [outsAt0_C m c t h0 h1]
        unfold out0_C_5 out0_C_6 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 9 := lt_of_lt_of_eq t.isLt (show cfg0.N = 9 from N_0); omega
      · rw [PhiS_castSucc m c t, PhiS_pos m c _ _ hz]
        rw [outsAt0_B m c t h0 h1]
        unfold out0_B_5 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _)
        iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Bwd`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Bwd.Run

end
-- ==== Proof.BwdIdealRuns.lean ====
/- What the runs of the backward kernel's body share: the offsets of its four reads of the padded gradients in closed
   form (one tap per grid point: column shift `i % 3`, row shift `(2 - i / 3) * 64`), the buffers as the launch finds
   them, the branch conditions over the grid points, the windows' blocks. -/
module

public import proofs.«01_k».proof.Proof.Gen.BwdIdeal.Launch
public import proofs.«01_k».proof.Proof.Gen.BwdIdeal.Skeleton
public import proofs.«01_k».proof.Proof.Gen.BwdIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.BwdIdeal.Run

open Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The offsets of the dynamic reads -/

/-- Where the tap reads image 0 of the padded gradients. -/
theorem k0_off1_eq : ∀ i : grid0.Coords, k0_off1 i = ![(i 0).val % 3, 0, (2 - (i 0).val / 3) * 64, 0] := by decide +kernel
instance closedOff_k0_off1 (i : grid0.Coords) : ClosedOff (k0_off1 i) := ⟨![(i 0).val % 3, 0, (2 - (i 0).val / 3) * 64, 0], k0_off1_eq i⟩
/-- Where the tap reads image 1 of the padded gradients. -/
theorem k0_off2_eq : ∀ i : grid0.Coords, k0_off2 i = ![(i 0).val % 3, 1, (2 - (i 0).val / 3) * 64, 0] := by decide +kernel
instance closedOff_k0_off2 (i : grid0.Coords) : ClosedOff (k0_off2 i) := ⟨![(i 0).val % 3, 1, (2 - (i 0).val / 3) * 64, 0], k0_off2_eq i⟩
/-- Where the tap reads image 2 of the padded gradients. -/
theorem k0_off3_eq : ∀ i : grid0.Coords, k0_off3 i = ![(i 0).val % 3, 2, (2 - (i 0).val / 3) * 64, 0] := by decide +kernel
instance closedOff_k0_off3 (i : grid0.Coords) : ClosedOff (k0_off3 i) := ⟨![(i 0).val % 3, 2, (2 - (i 0).val / 3) * 64, 0], k0_off3_eq i⟩
/-- Where the tap reads image 3 of the padded gradients. -/
theorem k0_off4_eq : ∀ i : grid0.Coords, k0_off4 i = ![(i 0).val % 3, 3, (2 - (i 0).val / 3) * 64, 0] := by decide +kernel
instance closedOff_k0_off4 (i : grid0.Coords) : ClosedOff (k0_off4 i) := ⟨![(i 0).val % 3, 3, (2 - (i 0).val / 3) * 64, 0], k0_off4_eq i⟩

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_BwdIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, e0]
    word_cmp
   : ∀ t : Fin grid0.N, cond0_0 (grid0.coords t) ↔ t.val % 9 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 9 = 8 :=
  (fun t => by
    have ht : t.val < 9 := Nat.lt_of_lt_of_eq t.isLt N_0
    have e0 : (grid0.coords t 0).val = t.val / 1 % 9 := Pipeline.Grid.coords_val t 0 (by decide) rfl
    simp only [cond0_1, k0_cond2, e0]
    word_cmp
   : ∀ t : Fin grid0.N, cond0_1 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an output stored at every point, under no condition). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel

/-! ## The kernel body on any staging memrefs: a subtype the run finds -/

/-- One staging buffer of output window 5, through which its contents are stated (`View.read_writes_of_cover`: the
    choice does not matter). -/
abbrev VO0_5 : View sig .tc .vmem S1x1x640x640 .f32 := (Memref.whole cc0_stg5_0 : Memref sig .tc .vmem S1x1x640x640 .f32).view
/-- One staging buffer of output window 6, through which its contents are stated (`View.read_writes_of_cover`: the
    choice does not matter). -/
abbrev VO0_6 : View sig .tc .vmem S4x512x640 .bf16 := (Memref.whole cc0_stg6_0 : Memref sig .tc .vmem S4x512x640 .bf16).view
/-- Each window's current staging memref at point `t`, spelled as the pipeline passes it (`bodyAt0`), and its wholeness. -/
abbrev ms0_0 (t : Fin cfg0.N) : Memref sig .tc .vmem S4x512x640 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x4x1x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512x640 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x640x640 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x640 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x640x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x512x640 .bf16 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S3x4x640x640 .bf16 := Memref.whole cc0_scratch0
abbrev scM0_1 : Memref sig .tc .vmem S4x512x640 .f32 := Memref.whole cc0_scratch1
/-- The scratch `arg8` the kernel carries between points, as a view: what it holds is stated through it. -/
abbrev VS0_0 : View sig .tc .vmem S3x4x640x640 .bf16 := scM0_0.view
/-- The scratch `arg9` the kernel carries between points, as a view: what it holds is stated through it. -/
abbrev VS0_1 : View sig .tc .vmem S4x512x640 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.BwdIdeal.Run

end
-- ==== Proof.BwdIdealRunA.lean ====
/- The backward kernel's body at the first point: it fills the padded gradients, clears the accumulator and adds the
   first tap. -/
module

public import proofs.«01_k».proof.Proof.BwdIdealRuns

@[expose] public section

-- membership in a rectangle of production extents (`View.cover_of_tiled`): the elaborator's structural look
-- recurses once per coordinate of the long axes
set_option maxRecDepth 16384

noncomputable section

namespace Cert.BwdIdeal.Run

open Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1008000 in
/-- What the body's stores leave in each output's staging memref, as pieces (last first) IN CASE A (`scf.if` 0 taken, `scf.if` 1 not taken: points 0), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) :
    Σ' (L5 : List (View.Piece (Elt F) S1x1x640x640 .f32)), Σ' (L6 : List (View.Piece (Elt F) S4x512x640 .bf16)), Σ' (LS0 : List (View.Piece (Elt F) S3x4x640x640 .bf16)), { LS1 : List (View.Piece (Elt F) S4x512x640 .f32) //
      ∀ (xi6 : Vec F S4x512x640 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K } := by
  refine ⟨?_, [], ?_, ?_, fun xi6 E K => ?run⟩
  case run =>
    simp only [cc0_bwd_eq_skeleton]; unfold cc0_bwd_skel
    simp only [k0_part15_eq_skeleton, k0_part12_eq_skeleton, k0_part11_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]; · iexists _; iexact HS0
    iexists _; iexact HS1

end Cert.BwdIdeal.Run

end
-- ==== Proof.BwdIdealRunB.lean ====
/- The backward kernel's body at the points in between: one more tap over what the point before left. -/
module

public import proofs.«01_k».proof.Proof.BwdIdealRunA

@[expose] public section

-- membership in a rectangle of production extents (`View.cover_of_tiled`): the elaborator's structural look
-- recurses once per coordinate of the long axes
set_option maxRecDepth 16384

noncomputable section

namespace Cert.BwdIdeal.Run

open Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 7: 7 of 9), WITH the
    proof that on whole staging memrefs — the inputs' at their contents, the outputs it leaves idle (6: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) :
    Σ' (L5 : List (View.Piece (Elt F) S1x1x640x640 .f32)), Σ' (L6 : List (View.Piece (Elt F) S4x512x640 .bf16)), Σ' (LS0 : List (View.Piece (Elt F) S3x4x640x640 .bf16)), { LS1 : List (View.Piece (Elt F) S4x512x640 .f32) //
      ∀ (xi6 : Vec F S4x512x640 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xi6 ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K } := by
  refine ⟨?_, [], [], ?_, fun xi6 E K => ?run⟩
  case run =>
    simp only [cc0_bwd_eq_skeleton]; unfold cc0_bwd_skel
    simp only [k0_part15_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]
    · iexists _; isplitr; · ipureintro; exact harg7.read_unread _
      iexact H6
    isplitl [HS0]
    · iexists _; isplitr; · ipureintro; exact harg8.read_unread _
      iexact HS0
    iexists _; iexact HS1

end Cert.BwdIdeal.Run

end
-- ==== Proof.BwdIdealRunC.lean ====
/- The backward kernel's body at the last point: the last tap, then the input gradient is stored. -/
module

public import proofs.«01_k».proof.Proof.BwdIdealRunB

@[expose] public section

-- membership in a rectangle of production extents (`View.cover_of_tiled`): the elaborator's structural look
-- recurses once per coordinate of the long axes
set_option maxRecDepth 16384

noncomputable section

namespace Cert.BwdIdeal.Run

open Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) :
    Σ' (L5 : List (View.Piece (Elt F) S1x1x640x640 .f32)), Σ' (L6 : List (View.Piece (Elt F) S4x512x640 .bf16)), Σ' (LS0 : List (View.Piece (Elt F) S3x4x640x640 .bf16)), { LS1 : List (View.Piece (Elt F) S4x512x640 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ (∃ f, arg9.view.loc (c : Thread nD τ) ↦[arg9.view.set]{fullShare} arg9.view.writes (Elt F) f LS1)) -∗ K ⟨⟩))
          ⊢ wp frame (wpE (defs₀ (F := F)) Variants.none c none) E (cc0_bwd i arg1 harg1 arg2 harg2 arg3 harg3 arg4 harg4 arg5 harg5 arg6 harg6 arg7 harg7 arg8 harg8 arg9 harg9) K } := by
  refine ⟨?_, ?_, [], ?_, fun E K => ?run⟩
  case run =>
    simp only [cc0_bwd_eq_skeleton]; unfold cc0_bwd_skel
    simp only [k0_part15_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _; isplitr; · ipureintro; exact harg8.read_unread _
      iexact HS0
    iexists _; iexact HS1

end Cert.BwdIdeal.Run

end
-- ==== Proof.BwdIdealFrame.lean ====
/- The frame of the backward call: what its outputs and its two scratch buffers hold after each point, the body
   obligation, the run, the frame claim. -/
module

public import proofs.«01_k».proof.Proof.BwdIdealRunC
public import Idealize.ShloMosaic.Lib.Claim

@[expose] public section

-- membership in a rectangle of production extents (`View.cover_of_tiled`): the elaborator's structural look
-- recurses once per coordinate of the long axes
set_option maxRecDepth 16384

noncomputable section

namespace Cert.BwdIdeal.Run

open Cert.BwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (4 stores of `S1x1x640x640`, checked by the kernel's evaluation: Lib/Ring.lean `Piece.tiledL`, linear in the pieces, through a loop's `@[irreducible]` trip theorem too), so they cover it. -/
theorem cover0_A_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (y : S1x1x640x640.Idx) :
    ∃ pc ∈ (kernelRun0_A c i arg1 harg1 arg2 harg2 arg3 harg3 arg4 harg4 arg5 harg5 arg6 harg6 arg7 harg7 arg8 harg8 arg9 harg9 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 hc0 hc1 x0 x1 x2 x3 x4).1 S1x1x640x640.size (by sl_kernel_rfl) y

/-- What case A leaves in output 5's staging buffer: its pieces read back over junk. -/
def out0_A_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) : Vec F S1x1x640x640 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 x0 x1 x2 x3 x4).1)

/-- Case A stores nothing into output 6 (the window is idle at its points and not written back there):
    no pieces — a placeholder (junk read back) that nothing consults, since at these points the window is neither
    written back nor read at the next point (Lib/Pipeline.lean "Idle points"). -/
def out0_A_6 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) : Vec F S4x512x640 .bf16 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 hc1 x0 x1 x2 x3 x4).2.1)

/-- Case A's pieces for scratch `arg8`, which the kernel carries between points, cover it: 36 pieces (stores and landed copies) of several sizes (`S1x1x512x640`, `S1x1x64x640`) tiling it when cut into blocks of `![1, 1, 64, 640]` (Lib/Ring.lean `Piece.tiledBy`). -/
theorem scover0_A_0 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (y : S3x4x640x640.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.1, y ∈ pc.1.set :=
  View.cover_of_tiledBy (kernelRun0_A c i arg1 harg1 arg2 harg2 arg3 harg3 arg4 harg4 arg5 harg5 arg6 harg6 arg7 harg7 arg8 harg8 arg9 harg9 hc0 hc1 x0 x1 x2 x3 x4).2.2.1 ![1, 1, 64, 640] (by sl_kernel_rfl) y

/-- What case A leaves in scratch `arg8`: its pieces read back over junk. -/
def sout0_A_0 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) : Vec F S3x4x640x640 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 x0 x1 x2 x3 x4).2.2.1)

/-- Case A's pieces for scratch `arg9`, which the kernel carries between points, cover it: one of them a store of the WHOLE buffer (Lib/Ring.lean `sl_whole_mem`). -/
theorem scover0_A_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (y : S4x512x640.Idx) :
    ∃ pc ∈ (kernelRun0_A c i arg1 harg1 arg2 harg2 arg3 harg3 arg4 harg4 arg5 harg5 arg6 harg6 arg7 harg7 arg8 harg8 arg9 harg9 hc0 hc1 x0 x1 x2 x3 x4).2.2.2.1, y ∈ pc.1.set :=
  View.cover_of_wholeMem (kernelRun0_A c i arg1 harg1 arg2 harg2 arg3 harg3 arg4 harg4 arg5 harg5 arg6 harg6 arg7 harg7 arg8 harg8 arg9 harg9 hc0 hc1 x0 x1 x2 x3 x4).2.2.2.1 (by sl_whole_mem) y

/-- What case A leaves in scratch `arg9`: its pieces read back over junk. -/
def sout0_A_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) : Vec F S4x512x640 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 x0 x1 x2 x3 x4).2.2.2.1)

/-- Case B's pieces for output 5 tile its block (4 stores of `S1x1x640x640`, checked by the kernel's evaluation: Lib/Ring.lean `Piece.tiledL`, linear in the pieces, through a loop's `@[irreducible]` trip theorem too), so they cover it. -/
theorem cover0_B_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S1x1x640x640.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).1 S1x1x640x640.size (by sl_kernel_rfl) y

/-- What case B leaves in output 5's staging buffer: its pieces read back over junk. -/
def out0_B_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S1x1x640x640 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 x0 x1 x2 x3 x4 xs0 xs1).1)

/-- Case B stores nothing into output 6 (the window is idle at its points and not written back there):
    no pieces — a placeholder (junk read back) that nothing consults, since at these points the window is neither
    written back nor read at the next point (Lib/Pipeline.lean "Idle points"). -/
def out0_B_6 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S4x512x640 .bf16 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 hc1 x0 x1 x2 x3 x4 xs0 xs1).2.1)

/-- Case B stores nothing into scratch `arg8`: it holds what the point before left. -/
def sout0_B_0 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S3x4x640x640 .bf16 := xs0

/-- Case B's pieces for scratch `arg9`, which the kernel carries between points, cover it: 4 pieces of `S1x512x640` tiling it (Lib/Ring.lean `Piece.tiledL`). -/
theorem scover0_B_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S4x512x640.Idx) :
    ∃ pc ∈ (kernelRun0_B c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 x0 x1 x2 x3 x4 xs0 xs1).2.2.2.1 S1x512x640.size (by sl_kernel_rfl) y

/-- What case B leaves in scratch `arg9`: its pieces read back over junk. -/
def sout0_B_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : ¬cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S4x512x640 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 x0 x1 x2 x3 x4 xs0 xs1).2.2.2.1)

/-- Case C's pieces for output 5 tile its block (4 stores of `S1x1x640x640`, checked by the kernel's evaluation: Lib/Ring.lean `Piece.tiledL`, linear in the pieces, through a loop's `@[irreducible]` trip theorem too), so they cover it. -/
theorem cover0_C_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S1x1x640x640.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).1 S1x1x640x640.size (by sl_kernel_rfl) y

/-- What case C leaves in output 5's staging buffer: its pieces read back over junk. -/
def out0_C_5 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S1x1x640x640 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 x0 x1 x2 x3 x4 xs0 xs1).1)

/-- Case C's pieces for output 6 tile its block (1 store of `S4x512x640`, checked by the kernel's evaluation: Lib/Ring.lean `Piece.tiledL`, linear in the pieces, through a loop's `@[irreducible]` trip theorem too), so they cover it. -/
theorem cover0_C_6 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S4x512x640.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.1 S4x512x640.size (by sl_kernel_rfl) y

/-- What case C leaves in output 6's staging buffer: its pieces read back over junk. -/
def out0_C_6 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S4x512x640 .bf16 :=
  VO0_6.read (Elt F) (VO0_6.writes (Elt F) VO0_6.junk (kernelRun0_C c i arg1 harg1 arg2 harg2 arg3 harg3 arg4 harg4 arg5 harg5 arg6 harg6 arg7 harg7 arg8 harg8 arg9 harg9 hc0 hc1 x0 x1 x2 x3 x4 xs0 xs1).2.1)

/-- Case C stores nothing into scratch `arg8`: it holds what the point before left. -/
def sout0_C_0 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S3x4x640x640 .bf16 := xs0

/-- Case C's pieces for scratch `arg9`, which the kernel carries between points, cover it: 4 pieces of `S1x512x640` tiling it (Lib/Ring.lean `Piece.tiledL`). -/
theorem scover0_C_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) (y : S4x512x640.Idx) :
    ∃ pc ∈ (kernelRun0_C c i arg1 harg1 arg2 harg2 arg3 harg3 arg4 harg4 arg5 harg5 arg6 harg6 arg7 harg7 arg8 harg8 arg9 harg9 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 x0 x1 x2 x3 x4 xs0 xs1).2.2.2.1 S1x512x640.size (by sl_kernel_rfl) y

/-- What case C leaves in scratch `arg9`: its pieces read back over junk. -/
def sout0_C_1 (c : Dev nD) (i : grid0.Coords) (arg1 : Memref sig .tc .vmem S4x512x640 .fp8e5m2) (harg1 : arg1.IsWhole) (arg2 : Memref sig .tc .vmem S4x4x1x128 .f32) (harg2 : arg2.IsWhole) (arg3 : Memref sig .tc .vmem S4x512x640 .bf16) (harg3 : arg3.IsWhole) (arg4 : Memref sig .tc .vmem S1x1x640x640 .fp8e4m3) (harg4 : arg4.IsWhole) (arg5 : Memref sig .tc .vmem S1x640 .f32) (harg5 : arg5.IsWhole) (arg6 : Memref sig .tc .vmem S1x1x640x640 .f32) (harg6 : arg6.IsWhole) (arg7 : Memref sig .tc .vmem S4x512x640 .bf16) (harg7 : arg7.IsWhole) (arg8 : Memref sig .tc .vmem S3x4x640x640 .bf16) (harg8 : arg8.IsWhole) (arg9 : Memref sig .tc .vmem S4x512x640 .f32) (harg9 : arg9.IsWhole) (hc0 : ¬cond0_0 i) (hc1 : cond0_1 i)
    (x0 : Vec F S4x512x640 .fp8e5m2) (x1 : Vec F S4x4x1x128 .f32) (x2 : Vec F S4x512x640 .bf16) (x3 : Vec F S1x1x640x640 .fp8e4m3) (x4 : Vec F S1x640 .f32) (xs0 : Vec F S3x4x640x640 .bf16) (xs1 : Vec F S4x512x640 .f32) : Vec F S4x512x640 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 x0 x1 x2 x3 x4 xs0 xs1).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x1x640x640 .f32 × Vec F S4x512x640 .bf16 × Vec F S3x4x640x640 .bf16 × Vec F S4x512x640 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 9 = 0 then
      if h1 : (n + 1) % 9 = 8 then
        False.elim (by have hN : n + 1 < 9 := lt_of_lt_of_eq hn (show cfg0.N = 9 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 9 = 8 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 9 = 0) (h1 : ¬t.val % 9 = 8) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 9 = 0) (h1 : ¬t.val % 9 = 8) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 9 = 0) (h1 : t.val % 9 = 8) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  by_cases h0 : t.val % 9 = 0
  · by_cases h1 : t.val % 9 = 8
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold out0_A_5 sout0_A_0 sout0_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _)
            unfold owns; iexists _; isplitr
            swap; · iexact HS1
            ipureintro; exact View.read_writes_of_cover _ _ _ _ _ (scover0_A_1 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _)
        iexists _; iexact H6
      · exfalso; have hN : t.val < 9 := lt_of_lt_of_eq t.isLt (show cfg0.N = 9 from N_0); omega
  · by_cases h1 : t.val % 9 = 8
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      by_cases hz : t.val = 0
      · exfalso; have hN : t.val < 9 := lt_of_lt_of_eq t.isLt (show cfg0.N = 9 from N_0); omega
      · rw [PhiS_castSucc m c t, PhiS_pos m c _ _ hz]
        rw [outsAt0_C m c t h0 h1]
        unfold out0_C_5 out0_C_6 sout0_C_0 sout0_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_C_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _)
        unfold owns; iexists _; isplitr
        swap; · iexact H6
        ipureintro; exact View.read_writes_of_cover _ _ _ _ _ (cover0_C_6 c _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      by_cases hz : t.val = 0
      · exfalso; have hN : t.val < 9 := lt_of_lt_of_eq t.isLt (show cfg0.N = 9 from N_0); omega
      · rw [PhiS_castSucc m c t, PhiS_pos m c _ _ hz]
        rw [outsAt0_B m c t h0 h1]
        unfold out0_B_5 sout0_B_0 sout0_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2.2 _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexact H6
        isplitl [HS0]; · iexact HS0
        isplitl [HS1]; · iexact HS1
        iintro ⟨H0, H1, H2, H3, H4, ⟨%e5, H5⟩, H6, HS0, ⟨%es1, HS1⟩⟩
        isplitl [HS0 HS1 Hg]
        · isplitl [HS0 HS1]
          · isplitl [HS0]
            · iexact HS0
            unfold owns; iexists _; isplitr
            swap; · iexact HS1
            ipureintro; exact View.read_writes_of_cover _ _ _ _ _ (scover0_B_1 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _)
        iexists _; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 9 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_BwdIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.BwdIdeal.Run

end
-- ==== Proof.BwdIdealValue.lean ====
/- What the arrays of the backward call hold after the run, in terms of what each point leaves. -/
module

public import proofs.«01_k».proof.Proof.BwdIdealFrame
public import Idealize.ShloMosaic.Lib.Pipeline.Value

@[expose] public section

noncomputable section

namespace Cert.BwdIdeal.Value

open Cert.BwdIdeal Cert.BwdIdeal.Gen Cert.BwdIdeal.Run Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 9 = 0) (h1 : ¬t.val % 9 = 8) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 9 = 0) (h1 : ¬t.val % 9 = 8) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 9 = 0) (h1 : t.val % 9 = 8) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed5, outsAt0_C m c t h0 h1]

/-- The index map sends distinct grid points to distinct block indices (decided over the 9 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S3x3x640x640.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 9 = 0) (h1 : ¬t.val % 9 = 8) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 9 = 0) (h1 : ¬t.val % 9 = 8) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 9 = 0) (h1 : t.val % 9 = 8) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S4x512x640.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S3x4x640x640 .bf16) : Vec F S3x4x640x640 .bf16 :=
  if h0 : n % 9 = 0 then
    if h1 : n % 9 = 8 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    if h1 : n % 9 = 8 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2

/-- WHAT CARRIED SCRATCH 0 HOLDS after point `t`: the fold of its run up to `t`, from the reset at the run's first point
    `9·(t / 9)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (9 * (t.val / 9)) (t.val % 9)
      (by have h1 := t.isLt; have h2 := Nat.div_add_mod t.val 9; omega) :=
  Pipeline.eq_accAt_of_mod (fun n h => (outsAt0 m c n h).2.2.1) 9 (fun n h => scAt0_0 m c n h (VS0_0.read (Elt F) VS0_0.junk)) (scAt0_0 m c)
    (fun n h hn => by
      have hN := lt_of_lt_of_eq h (show cfg0.N = 9 from N_0)
      by_cases h0 : n % 9 = 0 <;> by_cases h1 : n % 9 = 8
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 9 from N_0)
      by_cases h0 : (n + 1) % 9 = 0 <;> by_cases h1 : (n + 1) % 9 = 8
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 9 from N_0)
  have hd : n / 9 = 0 := Nat.div_eq_of_lt hN
  have hm : n % 9 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`Gen.sout0_κ_1`; anything else the case takes of the point
    before, another carried scratch or an output it reads back, stays `Gen.outsAt0`'s at `n - 1`); a case at the first point
    stores the scratch whole without reading what it held, and `acc` does not enter there (nor where no point meets the
    conditions: `acc`, never read). -/
def scAt0_1 (c : Dev nD) (n : ℕ) (hb : n < cfg0.N) (acc : Vec F S4x512x640 .f32) : Vec F S4x512x640 .f32 :=
  if h0 : n % 9 = 0 then
    if h1 : n % 9 = 8 then
      acc
    else
      sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    if h1 : n % 9 = 8 then
      sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc
    else
      sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc

/-- WHAT CARRIED SCRATCH 1 HOLDS after point `t`: the fold of its run up to `t`, from the reset at the run's first point
    `9·(t / 9)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2 = Pipeline.accAt (fun n h => scAt0_1 m c n h (VS0_1.read (Elt F) VS0_1.junk)) (scAt0_1 m c) (9 * (t.val / 9)) (t.val % 9)
      (by have h1 := t.isLt; have h2 := Nat.div_add_mod t.val 9; omega) :=
  Pipeline.eq_accAt_of_mod (fun n h => (outsAt0 m c n h).2.2.2) 9 (fun n h => scAt0_1 m c n h (VS0_1.read (Elt F) VS0_1.junk)) (scAt0_1 m c)
    (fun n h hn => by
      have hN := lt_of_lt_of_eq h (show cfg0.N = 9 from N_0)
      by_cases h0 : n % 9 = 0 <;> by_cases h1 : n % 9 = 8
      all_goals first | (exfalso; omega) | (rw [outsAt0_A m c ⟨n, h⟩ h0 h1]; dsimp only; unfold scAt0_1; rw [dif_pos h0, dif_neg h1] <;> try rfl) | (rw [outsAt0_B m c ⟨n, h⟩ h0 h1]; dsimp only; unfold scAt0_1; rw [dif_neg h0, dif_neg h1] <;> try rfl) | (rw [outsAt0_C m c ⟨n, h⟩ h0 h1]; dsimp only; unfold scAt0_1; rw [dif_neg h0, dif_pos h1] <;> try rfl))
    (fun n h hn => by
      have hN := lt_of_lt_of_eq h (show cfg0.N = 9 from N_0)
      by_cases h0 : (n + 1) % 9 = 0 <;> by_cases h1 : (n + 1) % 9 = 8
      all_goals first | (exfalso; omega) | (rw [outsAt0_A m c ⟨n + 1, h⟩ h0 h1]; dsimp only; unfold scAt0_1; rw [dif_pos h0, dif_neg h1] <;> try rfl) | (rw [outsAt0_B m c ⟨n + 1, h⟩ h0 h1]; dsimp only; unfold scAt0_1; rw [dif_neg h0, dif_neg h1] <;> try rfl) | (rw [outsAt0_C m c ⟨n + 1, h⟩ h0 h1]; dsimp only; unfold scAt0_1; rw [dif_neg h0, dif_pos h1] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 9 from N_0)
  have hd : n / 9 = 0 := Nat.div_eq_of_lt hN
  have hm : n % 9 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x1x640x640 .f32 × Vec F S4x512x640 .bf16 × Vec F S3x4x640x640 .bf16 × Vec F S4x512x640 .f32 :=
  ((VO0_5.read (Elt F) VO0_5.junk, VO0_6.read (Elt F) VO0_6.junk, VS0_0.read (Elt F) VS0_0.junk, VS0_1.read (Elt F) VS0_1.junk) : Vec F S1x1x640x640 .f32 × Vec F S4x512x640 .bf16 × Vec F S3x4x640x640 .bf16 × Vec F S4x512x640 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x1x640x640 .f32 × Vec F S4x512x640 .bf16 × Vec F S3x4x640x640 .bf16 × Vec F S4x512x640 .f32) : Vec F S1x1x640x640 .f32 × Vec F S4x512x640 .bf16 × Vec F S3x4x640x640 .bf16 × Vec F S4x512x640 .f32 :=
  if h0 : n % 9 = 0 then
    if h1 : n % 9 = 8 then
      False.elim (by have hN : n < 9 := lt_of_lt_of_eq hb (show cfg0.N = 9 from N_0); omega)
    else
      (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    if h1 : n % 9 = 8 then
      (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2)
    else
      (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2)

/-- `stAt0` at a point of case A: that case's contents. -/
theorem stAt0_A (c : Dev nD) (t : Fin cfg0.N) (acc : Vec F S1x1x640x640 .f32 × Vec F S4x512x640 .bf16 × Vec F S3x4x640x640 .bf16 × Vec F S4x512x640 .f32) (h0 : t.val % 9 = 0) (h1 : ¬t.val % 9 = 8) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) :=
  (dif_pos h0).trans ((dif_neg h1).trans rfl)

/-- `stAt0` at a point of case B: that case's contents, over `acc`. -/
theorem stAt0_B (c : Dev nD) (t : Fin cfg0.N) (acc : Vec F S1x1x640x640 .f32 × Vec F S4x512x640 .bf16 × Vec F S3x4x640x640 .bf16 × Vec F S4x512x640 .f32) (h0 : ¬t.val % 9 = 0) (h1 : ¬t.val % 9 = 8) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) acc.2.2.1 acc.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) acc.2.2.1 acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) acc.2.2.1 acc.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) acc.2.2.1 acc.2.2.2) :=
  (dif_neg h0).trans ((dif_neg h1).trans rfl)

/-- `stAt0` at a point of case C: that case's contents, over `acc`. -/
theorem stAt0_C (c : Dev nD) (t : Fin cfg0.N) (acc : Vec F S1x1x640x640 .f32 × Vec F S4x512x640 .bf16 × Vec F S3x4x640x640 .bf16 × Vec F S4x512x640 .f32) (h0 : ¬t.val % 9 = 0) (h1 : t.val % 9 = 8) :
    stAt0 m c t.val t.isLt acc = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) acc.2.2.1 acc.2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) acc.2.2.1 acc.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) acc.2.2.1 acc.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) acc.2.2.1 acc.2.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 9 from N_0)
  have e := Pipeline.eq_accAt_of_mod (fun n h => outsAt0 m c n h) 9 (fun n h => stAt0 m c n h junk0) (stAt0 m c)
    (fun n h _ => by
      have hN := lt_of_lt_of_eq h (show cfg0.N = 9 from N_0)
      obtain rfl : n = 0 := by omega
      exact outsAt0_zero m c h)
    (fun n h _ => outsAt0_succ m c n h)
    (by decide) n hn (by have := Nat.div_add_mod n 9; omega)
  have hd : n / 9 = 0 := Nat.div_eq_of_lt hN
  have hm : n % 9 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S3x3x640x640.Idx) : ℕ := 3 * ((i 0).val / 1 - 0) + 1 * ((i 1).val / 1 - 0) + 1 * ((i 2).val / 640 - 0) + 1 * ((i 3).val / 640 - 0)
set_option backward.proofsInPublic true in
abbrev loc5Of (i : S3x3x640x640.Idx) : S1x1x640x640.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 640, Nat.mod_lt _ (by decide)⟩
  | ⟨3, _⟩ => ⟨(i 3).val % 640, Nat.mod_lt _ (by decide)⟩
abbrev pt5Of (i : S3x3x640x640.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v2_0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 4) ∧ win0_5.index t (0 : Fin 4) ≤ 2
    ∧ 0 ≤ win0_5.index t (1 : Fin 4) ∧ win0_5.index t (1 : Fin 4) ≤ 2
    ∧ 0 ≤ win0_5.index t (2 : Fin 4) ∧ win0_5.index t (2 : Fin 4) ≤ 0
    ∧ 0 ≤ win0_5.index t (3 : Fin 4) ∧ win0_5.index t (3 : Fin 4) ≤ 0
    ∧ 3 * (win0_5.index t (0 : Fin 4) - 0) + 1 * (win0_5.index t (1 : Fin 4) - 0) + 1 * (win0_5.index t (2 : Fin 4) - 0) + 1 * (win0_5.index t (3 : Fin 4) - 0) = t.val :=
  (by decide +kernel : ∀ t : Fin grid0.N, _)

/-- Every block of the box is SOME flushing point's: `onto5Pt`, the point that writes back the block at place `q` of the box. -/
abbrev onto5Pt (q0 : Fin 3) (q1 : Fin 3) (q2 : Fin 1) (q3 : Fin 1) : Fin grid0.N :=
  ⟨3 * q0.val + 1 * q1.val + 1 * q2.val + 1 * q3.val, lt_of_lt_of_eq (by omega) N_0.symm⟩
theorem idx_onto5 : ∀ (q0 : Fin 3) (q1 : Fin 3) (q2 : Fin 1) (q3 : Fin 1), ∃ t : Fin cfg0.N, (cfg0.win 5).flush t = true ∧ win0_5.index t = ![q0.val + 0, q1.val + 0, q2.val + 0, q3.val + 0] :=
  fun q0 q1 q2 q3 => ⟨onto5Pt q0 q1 q2 q3, (by decide +kernel : ∀ (q0 : Fin 3) (q1 : Fin 3) (q2 : Fin 1) (q3 : Fin 1), win0_5.flush (onto5Pt q0 q1 q2 q3) = true ∧ win0_5.index (onto5Pt q0 q1 q2 q3) = ![q0.val + 0, q1.val + 0, q2.val + 0, q3.val + 0]) q0 q1 q2 q3⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2, e3, e4⟩ := idx_facts5 t
  funext y
  have hy0 : (y 0).val < 1 := (y 0).isLt
  have hy1 : (y 1).val < 1 := (y 1).isLt
  have hy2 : (y 2).val < 640 := (y 2).isLt
  have hy3 : (y 3).val < 640 := (y 3).isLt
  have hb0 : (((cfg0.win 5).blk t).view.emb y 0).val = win0_5.index t (0 : Fin 4) * 1 + 1 * (y 0).val := rfl
  have hb1 : (((cfg0.win 5).blk t).view.emb y 1).val = win0_5.index t (1 : Fin 4) * 1 + 1 * (y 1).val := rfl
  have hb2 : (((cfg0.win 5).blk t).view.emb y 2).val = win0_5.index t (2 : Fin 4) * 640 + 1 * (y 2).val := rfl
  have hb3 : (((cfg0.win 5).blk t).view.emb y 3).val = win0_5.index t (3 : Fin 4) * 640 + 1 * (y 3).val := rfl
  have hr : run5Of (((cfg0.win 5).blk t).view.emb y) = t.val := by
    show 3 * ((((cfg0.win 5).blk t).view.emb y 0).val / 1 - 0) + 1 * ((((cfg0.win 5).blk t).view.emb y 1).val / 1 - 0) + 1 * ((((cfg0.win 5).blk t).view.emb y 2).val / 640 - 0) + 1 * ((((cfg0.win 5).blk t).view.emb y 3).val / 640 - 0) = _
    rw [hb0, hb1, hb2, hb3]
    rw [show (win0_5.index t (0 : Fin 4) * 1 + 1 * (y 0).val) / 1 = win0_5.index t (0 : Fin 4) from by omega]; rw [show (win0_5.index t (1 : Fin 4) * 1 + 1 * (y 1).val) / 1 = win0_5.index t (1 : Fin 4) from by omega]; rw [show (win0_5.index t (2 : Fin 4) * 640 + 1 * (y 2).val) / 640 = win0_5.index t (2 : Fin 4) from by omega]; rw [show (win0_5.index t (3 : Fin 4) * 640 + 1 * (y 3).val) / 640 = win0_5.index t (3 : Fin 4) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 1 = (y 1).val; rw [hb1]; omega
    | ⟨2, _⟩ => show (((cfg0.win 5).blk t).view.emb y 2).val % 640 = (y 2).val; rw [hb2]; omega
    | ⟨3, _⟩ => show (((cfg0.win 5).blk t).view.emb y 3).val % 640 = (y 3).val; rw [hb3]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S3x3x640x640.Idx) :
    i ∈ ((cfg0.win 5).blk t).view.set ↔ ∀ a : Fin 4, win0_5.index t a * S1x1x640x640.size a ≤ (i a).val ∧ (i a).val < win0_5.index t a * S1x1x640x640.size a + S1x1x640x640.size a := by
  show i ∈ ((View.whole main_v2_0).slice (win0_5.rect t)).set ↔ _
  rw [View.set_slice_whole, Rect.mem_set_unit]
  exact Iff.rfl

/-- THE COVERED INDICES: in some flushing point's block iff inside the box those blocks fill. -/
theorem covered_iff5 (i : S3x3x640x640.Idx) :
    (∃ t : Fin cfg0.N, (cfg0.win 5).flush t = true ∧ i ∈ ((cfg0.win 5).blk t).view.set) ↔ 0 ≤ (i 0).val ∧ (i 0).val < 3 ∧ 0 ≤ (i 1).val ∧ (i 1).val < 3 ∧ 0 ≤ (i 2).val ∧ (i 2).val < 640 ∧ 0 ≤ (i 3).val ∧ (i 3).val < 640 := by
  constructor
  · rintro ⟨t, -, hi⟩
    rw [mem_blk5] at hi
    have b0 : win0_5.index t (0 : Fin 4) * 1 ≤ (i 0).val ∧ (i 0).val < win0_5.index t (0 : Fin 4) * 1 + 1 := hi 0
    have b1 : win0_5.index t (1 : Fin 4) * 1 ≤ (i 1).val ∧ (i 1).val < win0_5.index t (1 : Fin 4) * 1 + 1 := hi 1
    have b2 : win0_5.index t (2 : Fin 4) * 640 ≤ (i 2).val ∧ (i 2).val < win0_5.index t (2 : Fin 4) * 640 + 640 := hi 2
    have b3 : win0_5.index t (3 : Fin 4) * 640 ≤ (i 3).val ∧ (i 3).val < win0_5.index t (3 : Fin 4) * 640 + 640 := hi 3
    obtain ⟨e0, e1, e2, e3, e4⟩ := idx_facts5 t
    omega
  · intro h
    have hi0 : (i 0).val < 3 := (i 0).isLt
    have hi1 : (i 1).val < 3 := (i 1).isLt
    have hi2 : (i 2).val < 640 := (i 2).isLt
    have hi3 : (i 3).val < 640 := (i 3).isLt
    obtain ⟨t, hft, ht⟩ := idx_onto5 ⟨(i 0).val / 1 - 0, by omega⟩ ⟨(i 1).val / 1 - 0, by omega⟩ ⟨(i 2).val / 640 - 0, by omega⟩ ⟨(i 3).val / 640 - 0, by omega⟩
    have q0 : win0_5.index t (0 : Fin 4) = (i 0).val / 1 - 0 + 0 := congrFun ht 0
    have q1 : win0_5.index t (1 : Fin 4) = (i 1).val / 1 - 0 + 0 := congrFun ht 1
    have q2 : win0_5.index t (2 : Fin 4) = (i 2).val / 640 - 0 + 0 := congrFun ht 2
    have q3 : win0_5.index t (3 : Fin 4) = (i 3).val / 640 - 0 + 0 := congrFun ht 3
    refine ⟨t, hft, ?_⟩
    rw [mem_blk5]
    intro a
    match a with
    | ⟨0, _⟩ => show win0_5.index t (0 : Fin 4) * 1 ≤ (i 0).val ∧ (i 0).val < win0_5.index t (0 : Fin 4) * 1 + 1; omega
    | ⟨1, _⟩ => show win0_5.index t (1 : Fin 4) * 1 ≤ (i 1).val ∧ (i 1).val < win0_5.index t (1 : Fin 4) * 1 + 1; omega
    | ⟨2, _⟩ => show win0_5.index t (2 : Fin 4) * 640 ≤ (i 2).val ∧ (i 2).val < win0_5.index t (2 : Fin 4) * 640 + 640; omega
    | ⟨3, _⟩ => show win0_5.index t (3 : Fin 4) * 640 ≤ (i 3).val ∧ (i 3).val < win0_5.index t (3 : Fin 4) * 640 + 640; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 3 := (i 0).isLt; have h1 : (i 1).val < 3 := (i 1).isLt; have h2 : (i 2).val < 640 := (i 2).isLt; have h3 : (i 3).val < 640 := (i 3).isLt; omega))

/-! ## Output window 6 -/

/-- The block of the array that holds index `i`, numbered in the order the points write the blocks back (one every 9 points),
    `i`'s place in it, and the point that writes it back (the last of its 9). -/
abbrev run6Of (i : S4x512x640.Idx) : ℕ := 1 * ((i 0).val / 4 - 0) + 1 * ((i 1).val / 512 - 0) + 1 * ((i 2).val / 640 - 0)
set_option backward.proofsInPublic true in
abbrev loc6Of (i : S4x512x640.Idx) : S4x512x640.Idx := fun a => match a with
  | ⟨0, _⟩ => ⟨(i 0).val % 4, Nat.mod_lt _ (by decide)⟩
  | ⟨1, _⟩ => ⟨(i 1).val % 512, Nat.mod_lt _ (by decide)⟩
  | ⟨2, _⟩ => ⟨(i 2).val % 640, Nat.mod_lt _ (by decide)⟩
abbrev pt6Of (i : S4x512x640.Idx) : ℕ := 9 * run6Of i + 8

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v2_1) := fun i =>
  if h : pt6Of i < cfg0.N then
    (Pipeline.accAt (fun n h => stAt0 m c n h junk0) (stAt0 m c) 0 (pt6Of i) (by omega)).2.1 (loc6Of i)
  else V m c (Pipeline.arrRef spec0 6) i

/-- The printed index map, decided over the grid: output window 6's block indices stay in the box, and the block number
    read off them is the point's (`t / 9`). -/
theorem idx_facts6 : ∀ t : Fin cfg0.N, 0 ≤ win0_6.index t (0 : Fin 3) ∧ win0_6.index t (0 : Fin 3) ≤ 0
    ∧ 0 ≤ win0_6.index t (1 : Fin 3) ∧ win0_6.index t (1 : Fin 3) ≤ 0
    ∧ 0 ≤ win0_6.index t (2 : Fin 3) ∧ win0_6.index t (2 : Fin 3) ≤ 0
    ∧ 1 * (win0_6.index t (0 : Fin 3) - 0) + 1 * (win0_6.index t (1 : Fin 3) - 0) + 1 * (win0_6.index t (2 : Fin 3) - 0) = t.val / 9 :=
  (by decide +kernel : ∀ t : Fin grid0.N, _)

/-- Every block of the box is SOME flushing point's: `onto6Pt`, the point that writes back the block at place `q` of the box (the last point of its run). -/
abbrev onto6Pt (q0 : Fin 1) (q1 : Fin 1) (q2 : Fin 1) : Fin grid0.N :=
  ⟨9 * (1 * q0.val + 1 * q1.val + 1 * q2.val) + 8, lt_of_lt_of_eq (by omega) N_0.symm⟩
theorem idx_onto6 : ∀ (q0 : Fin 1) (q1 : Fin 1) (q2 : Fin 1), ∃ t : Fin cfg0.N, (cfg0.win 6).flush t = true ∧ win0_6.index t = ![q0.val + 0, q1.val + 0, q2.val + 0] :=
  fun q0 q1 q2 => ⟨onto6Pt q0 q1 q2, (by decide +kernel : ∀ (q0 : Fin 1) (q1 : Fin 1) (q2 : Fin 1), win0_6.flush (onto6Pt q0 q1 q2) = true ∧ win0_6.index (onto6Pt q0 q1 q2) = ![q0.val + 0, q1.val + 0, q2.val + 0]) q0 q1 q2⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 9 = 8 := (flush0_6 t).mp hf
  obtain ⟨e0, e1, e2, e3⟩ := idx_facts6 t
  funext y
  have hy0 : (y 0).val < 4 := (y 0).isLt
  have hy1 : (y 1).val < 512 := (y 1).isLt
  have hy2 : (y 2).val < 640 := (y 2).isLt
  have hb0 : (((cfg0.win 6).blk t).view.emb y 0).val = win0_6.index t (0 : Fin 3) * 4 + 1 * (y 0).val := rfl
  have hb1 : (((cfg0.win 6).blk t).view.emb y 1).val = win0_6.index t (1 : Fin 3) * 512 + 1 * (y 1).val := rfl
  have hb2 : (((cfg0.win 6).blk t).view.emb y 2).val = win0_6.index t (2 : Fin 3) * 640 + 1 * (y 2).val := rfl
  have hr : run6Of (((cfg0.win 6).blk t).view.emb y) = t.val / 9 := by
    show 1 * ((((cfg0.win 6).blk t).view.emb y 0).val / 4 - 0) + 1 * ((((cfg0.win 6).blk t).view.emb y 1).val / 512 - 0) + 1 * ((((cfg0.win 6).blk t).view.emb y 2).val / 640 - 0) = _
    rw [hb0, hb1, hb2]
    rw [show (win0_6.index t (0 : Fin 3) * 4 + 1 * (y 0).val) / 4 = win0_6.index t (0 : Fin 3) from by omega]; rw [show (win0_6.index t (1 : Fin 3) * 512 + 1 * (y 1).val) / 512 = win0_6.index t (1 : Fin 3) from by omega]; rw [show (win0_6.index t (2 : Fin 3) * 640 + 1 * (y 2).val) / 640 = win0_6.index t (2 : Fin 3) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 4 = (y 0).val; rw [hb0]; omega
    | ⟨1, _⟩ => show (((cfg0.win 6).blk t).view.emb y 1).val % 512 = (y 1).val; rw [hb1]; omega
    | ⟨2, _⟩ => show (((cfg0.win 6).blk t).view.emb y 2).val % 640 = (y 2).val; rw [hb2]; omega
  have hp : pt6Of (((cfg0.win 6).blk t).view.emb y) = t.val := by
    show 9 * run6Of (((cfg0.win 6).blk t).view.emb y) + 8 = _
    rw [hr]; have := Nat.div_add_mod t.val 9; omega
  show (Pipeline.accAt (fun n h => stAt0 m c n h junk0) (stAt0 m c) 0 t.val _).2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S4x512x640.Idx) :
    i ∈ ((cfg0.win 6).blk t).view.set ↔ ∀ a : Fin 3, win0_6.index t a * S4x512x640.size a ≤ (i a).val ∧ (i a).val < win0_6.index t a * S4x512x640.size a + S4x512x640.size a := by
  show i ∈ ((View.whole main_v2_1).slice (win0_6.rect t)).set ↔ _
  rw [View.set_slice_whole, Rect.mem_set_unit]
  exact Iff.rfl

/-- THE COVERED INDICES: in some flushing point's block iff inside the box those blocks fill. -/
theorem covered_iff6 (i : S4x512x640.Idx) :
    (∃ t : Fin cfg0.N, (cfg0.win 6).flush t = true ∧ i ∈ ((cfg0.win 6).blk t).view.set) ↔ 0 ≤ (i 0).val ∧ (i 0).val < 4 ∧ 0 ≤ (i 1).val ∧ (i 1).val < 512 ∧ 0 ≤ (i 2).val ∧ (i 2).val < 640 := by
  constructor
  · rintro ⟨t, -, hi⟩
    rw [mem_blk6] at hi
    have b0 : win0_6.index t (0 : Fin 3) * 4 ≤ (i 0).val ∧ (i 0).val < win0_6.index t (0 : Fin 3) * 4 + 4 := hi 0
    have b1 : win0_6.index t (1 : Fin 3) * 512 ≤ (i 1).val ∧ (i 1).val < win0_6.index t (1 : Fin 3) * 512 + 512 := hi 1
    have b2 : win0_6.index t (2 : Fin 3) * 640 ≤ (i 2).val ∧ (i 2).val < win0_6.index t (2 : Fin 3) * 640 + 640 := hi 2
    obtain ⟨e0, e1, e2, e3⟩ := idx_facts6 t
    omega
  · intro h
    have hi0 : (i 0).val < 4 := (i 0).isLt
    have hi1 : (i 1).val < 512 := (i 1).isLt
    have hi2 : (i 2).val < 640 := (i 2).isLt
    obtain ⟨t, hft, ht⟩ := idx_onto6 ⟨(i 0).val / 4 - 0, by omega⟩ ⟨(i 1).val / 512 - 0, by omega⟩ ⟨(i 2).val / 640 - 0, by omega⟩
    have q0 : win0_6.index t (0 : Fin 3) = (i 0).val / 4 - 0 + 0 := congrFun ht 0
    have q1 : win0_6.index t (1 : Fin 3) = (i 1).val / 512 - 0 + 0 := congrFun ht 1
    have q2 : win0_6.index t (2 : Fin 3) = (i 2).val / 640 - 0 + 0 := congrFun ht 2
    refine ⟨t, hft, ?_⟩
    rw [mem_blk6]
    intro a
    match a with
    | ⟨0, _⟩ => show win0_6.index t (0 : Fin 3) * 4 ≤ (i 0).val ∧ (i 0).val < win0_6.index t (0 : Fin 3) * 4 + 4; omega
    | ⟨1, _⟩ => show win0_6.index t (1 : Fin 3) * 512 ≤ (i 1).val ∧ (i 1).val < win0_6.index t (1 : Fin 3) * 512 + 512; omega
    | ⟨2, _⟩ => show win0_6.index t (2 : Fin 3) * 640 ≤ (i 2).val ∧ (i 2).val < win0_6.index t (2 : Fin 3) * 640 + 640; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 4 := (i 0).isLt; have h1 : (i 1).val < 512 := (i 1).isLt; have h2 : (i 2).val < 640 := (i 2).isLt; omega))

/-- Output 6 is written back ONCE, at the last point, and its block is its array: the array after the run is output 6's
    component of the fold over the whole grid — where a hand proof over this window starts. -/
theorem G6_last (c : Dev nD) :
    G6 m c = (Pipeline.accAt (fun n h => stAt0 m c n h junk0) (stAt0 m c) 0 8 (lt_of_lt_of_eq (by decide) N_0.symm)).2.1 := by
  funext i
  have hi0 : (i 0).val < 4 := (i 0).isLt
  have hi1 : (i 1).val < 512 := (i 1).isLt
  have hi2 : (i 2).val < 640 := (i 2).isLt
  have hp : pt6Of i = 8 := by
    show 9 * (1 * ((i 0).val / 4 - 0) + 1 * ((i 1).val / 512 - 0) + 1 * ((i 2).val / 640 - 0)) + 8 = _
    omega
  have hl : loc6Of i = i := by
    funext a; apply Fin.ext
    match a with
    | ⟨0, _⟩ => show (i 0).val % 4 = (i 0).val; omega
    | ⟨1, _⟩ => show (i 1).val % 512 = (i 1).val; omega
    | ⟨2, _⟩ => show (i 2).val % 640 = (i 2).val; omega
  unfold G6
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2_0) = G5 m c
      ∧ r.2.mem ((c : Thread nD τ).loc main_v2_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      kept_main_arg0 m r h c,
      kept_main_arg1 m r h c,
      kept_main_arg2 m r h c,
      kept_main_arg3 m r h c,
      kept_main_arg4 m r h c⟩)
    (run_main m ρ)

end Cert.BwdIdeal.Value

end
-- ==== Proof.BwdSpec.lean ====
/-
  The backward pass stated on the arguments: the dequantised output gradient, its image with a border of zeros, the nine taps of
  the input gradient, and the weight gradient of a tap in the two forms that the kernel and the reference sum.
-/
module

public import proofs.«01_k».proof.Proof.Gen.BwdRefIdeal.Value
public import Idealize.ShloMosaic.Lib.Pointwise
public import Idealize.ShloMosaic.Lib.Pipeline.ValueKit

@[expose] public section

set_option maxRecDepth 16384

noncomputable section
namespace Cert.Bwd1
open Idealize.ShloMosaic Idealize.ShloMosaic.TcCoe
open Cert.BwdRefIdeal

/-- Pixel `(y, x)` of an 8 by 64 image with a border of zeros around it. -/
def padded (f : Fin 512 → EReal) (y x : ℕ) : EReal :=
  if h : (1 ≤ y ∧ y ≤ 8) ∧ (1 ≤ x ∧ x ≤ 64) then f ⟨(y - 1) * 64 + (x - 1), by omega⟩ else 0

/-- A function of a padded pixel that is zero at zero, as a sum over the pixels inside. -/
theorem padded_sum (F : EReal → EReal) (hF : F 0 = 0) (f : Fin 512 → EReal) (y x : ℕ) :
    F (padded f y x) = ∑ q : Fin 512, if q.val / 64 + 1 = y ∧ q.val % 64 + 1 = x then F (f q) else 0 := by
  unfold padded
  split
  · rename_i h
    rw [Finset.sum_eq_single (⟨(y - 1) * 64 + (x - 1), by omega⟩ : Fin 512), if_pos (by dsimp only; omega)]
    · intro q _ hq
      rw [if_neg]
      rintro ⟨h1, h2⟩
      exact hq (Fin.ext (by dsimp only; omega))
    · intro h; exact absurd (Finset.mem_univ _) h
  · rename_i h
    rw [hF, Finset.sum_eq_zero]
    intro q _
    rw [if_neg]
    rintro ⟨h1, h2⟩
    have := q.isLt
    omega

/-- Summing an image against a shifted padded one is summing the oppositely shifted padded image against the other. -/
theorem shift_sum (a g : Fin 512 → EReal) (ky kx : Fin 3) :
    (∑ r : Fin 512, a r * padded g (2 - ky.val + r.val / 64) (2 - kx.val + r.val % 64))
      = ∑ q : Fin 512, padded a (ky.val + q.val / 64) (kx.val + q.val % 64) * g q := by
  rw [Finset.sum_congr rfl fun r _ => padded_sum (fun z => a r * z) (mul_zero _) g _ _, Finset.sum_comm]
  refine Finset.sum_congr rfl fun q _ => ?_
  rw [padded_sum (fun z => z * g q) (zero_mul _) a]
  refine Finset.sum_congr rfl fun r _ => ?_
  have h1 := ky.isLt
  have h2 := kx.isLt
  by_cases h : q.val / 64 + 1 = 2 - ky.val + r.val / 64 ∧ q.val % 64 + 1 = 2 - kx.val + r.val % 64
  · rw [if_pos h, if_pos (by omega)]
  · rw [if_neg h, if_neg (by omega)]

section
variable (dy : Vec Ideal S4x512x640 .fp8e5m2) (ds : Vec Ideal S4x512 .f32) (a2 : Vec Ideal S4x512x640 .bf16)
  (w : Vec Ideal S3x3x640x640 .fp8e4m3) (ws : Vec Ideal S640 .f32)

/-- The dequantised output gradient. -/
def grad (b : Fin 4) (n : Fin 640) (r : Fin 512) : EReal := dy (ix3 b r n) * ds (ix2 b r)

/-- The gradient at row `r` as tap `(ky, kx)` sees it. -/
def gtap (ky kx : Fin 3) (b : Fin 4) (r : Fin 512) (n : Fin 640) : EReal :=
  padded (grad dy ds b n) (2 - ky.val + r.val / 64) (2 - kx.val + r.val % 64)

/-- What tap `(ky, kx)` adds to the input gradient. -/
def dtap (ky kx : Fin 3) (b : Fin 4) (r : Fin 512) (c : Fin 640) : EReal :=
  ∑ n : Fin 640, gtap dy ds ky kx b r n * (w (ix4 ky kx c n) * ws (ix1 n))

/-- The tap of a position in the order of the grid. -/
abbrev rowOf (t : ℕ) : Fin 3 := ⟨t / 3 % 3, Nat.mod_lt _ (by omega)⟩
abbrev colOf (t : ℕ) : Fin 3 := ⟨t % 3, Nat.mod_lt _ (by omega)⟩

/-- The input gradient's sum over the first taps. -/
def dsum (n : ℕ) (b : Fin 4) (r : Fin 512) (c : Fin 640) : EReal :=
  ∑ t ∈ Finset.range n, dtap dy ds w ws (rowOf t) (colOf t) b r c

/-- The weight gradient of a tap. -/
def wgrad (ky kx : Fin 3) (k c : Fin 640) : EReal :=
  ∑ b : Fin 4, ∑ r : Fin 512, a2 (ix3 b r k) * gtap dy ds ky kx b r c

/-- The weight gradient with the activation padded in place of the output gradient. -/
theorem wgrad_eq (ky kx : Fin 3) (k c : Fin 640) :
    wgrad dy ds a2 ky kx k c
      = ∑ b : Fin 4, ∑ r : Fin 512, padded (fun q => a2 (ix3 b q k)) (ky.val + r.val / 64) (kx.val + r.val % 64) * grad dy ds b c r :=
  Finset.sum_congr rfl fun b _ => shift_sum (fun r => a2 (ix3 b r k)) (grad dy ds b c) ky kx

/-- The nine taps summed from the last to the first, as the reference does. -/
theorem dsum_eq (b : Fin 4) (r : Fin 512) (c : Fin 640) :
    0 + dtap dy ds w ws 2 2 b r c + dtap dy ds w ws 2 1 b r c + dtap dy ds w ws 2 0 b r c + dtap dy ds w ws 1 2 b r c + dtap dy ds w ws 1 1 b r c
      + dtap dy ds w ws 1 0 b r c + dtap dy ds w ws 0 2 b r c + dtap dy ds w ws 0 1 b r c + dtap dy ds w ws 0 0 b r c = dsum dy ds w ws 9 b r c := by
  unfold dsum
  simp only [Finset.sum_range_succ, Finset.sum_range_zero]
  show _ = 0 + dtap dy ds w ws 0 0 b r c + dtap dy ds w ws 0 1 b r c + dtap dy ds w ws 0 2 b r c + dtap dy ds w ws 1 0 b r c + dtap dy ds w ws 1 1 b r c
    + dtap dy ds w ws 1 2 b r c + dtap dy ds w ws 2 0 b r c + dtap dy ds w ws 2 1 b r c + dtap dy ds w ws 2 2 b r c
  ac_rfl
end
end Cert.Bwd1
-- ==== Proof.BwdPayloads.lean ====
/-
  The backward kernel's payloads, read at an index: the dequantised gradient of an image, its three column shifts, the products
  of a tap, and what the first point leaves in the scratch of padded gradients.
-/
module

public import proofs.«01_k».proof.Proof.BwdIdealValue
public import proofs.«01_k».proof.Proof.ConvPayloads
public import Idealize.ShloMosaic.Lib.Pointwise
public import Idealize.ShloMosaic.Lib.Pipeline.ValueKit

@[expose] public section

set_option maxRecDepth 16384

noncomputable section
namespace Cert.Bwd1
open Idealize.ShloMosaic Idealize.ShloMosaic.TcCoe
open Cert.BwdIdeal Cert.BwdIdeal.Gen
open Cert.Conv1 (is_zero is_last)

/-- The column of each row of the image. -/
theorem pay1_at (r : Fin 512) : k0_pay1 (ix2 r (0 : Fin 1)) = BitVec.ofNat 32 (r.val % 64) := by
  pointwise [k0_pay1]
  revert r
  decide +kernel

section
variable (v0 v1 v2 v3 : Vec Ideal S1x1x1x128 .f32) (C : Vec Ideal S1x512x640 .fp8e5m2) (s : Fin 512 → EReal)

/-- Four rows of scales hold the scales of an image's pixels. -/
structure Scales : Prop where
  h0 : ∀ l : Fin 128, v0 (ix4 (0 : Fin 1) (0 : Fin 1) (0 : Fin 1) l) = s ⟨l.val, by omega⟩
  h1 : ∀ l : Fin 128, v1 (ix4 (0 : Fin 1) (0 : Fin 1) (0 : Fin 1) l) = s ⟨128 + l.val, by omega⟩
  h2 : ∀ l : Fin 128, v2 (ix4 (0 : Fin 1) (0 : Fin 1) (0 : Fin 1) l) = s ⟨256 + l.val, by omega⟩
  h3 : ∀ l : Fin 128, v3 (ix4 (0 : Fin 1) (0 : Fin 1) (0 : Fin 1) l) = s ⟨384 + l.val, by omega⟩

variable {v0 v1 v2 v3 s} (H : Scales v0 v1 v2 v3 s) (r : Fin 512) (n : Fin 640)
include H

/-- The four rows of scales put one after the other. -/
theorem scale_of : (if h : r.val < 128 then v0 (ix4 (0 : Fin 1) (0 : Fin 1) (0 : Fin 1) ⟨r.val, h⟩)
    else if h1 : r.val - 128 < 128 then v1 (ix4 (0 : Fin 1) (0 : Fin 1) (0 : Fin 1) ⟨r.val - 128, h1⟩)
    else if h2 : r.val - 128 - 128 < 128 then v2 (ix4 (0 : Fin 1) (0 : Fin 1) (0 : Fin 1) ⟨r.val - 128 - 128, h2⟩)
    else v3 (ix4 (0 : Fin 1) (0 : Fin 1) (0 : Fin 1) ⟨r.val - 128 - 128 - 128, by omega⟩)) = s r := by
  split
  · rw [H.h0]
  split
  · rw [H.h1]; exact congrArg s (Fin.ext (by show 128 + (r.val - 128) = r.val; omega))
  split
  · rw [H.h2]; exact congrArg s (Fin.ext (by show 256 + (r.val - 128 - 128) = r.val; omega))
  · rw [H.h3]; exact congrArg s (Fin.ext (by show 384 + (r.val - 128 - 128 - 128) = r.val; omega))

theorem pay6_at : k0_pay6 (k0_pay2 v0) (k0_pay3 v1) (k0_pay4 v2) (k0_pay5 v3) C (ix2 r n) = C (ix3 (0 : Fin 1) r n) * s r := by
  pointwise [k0_pay6, k0_pay2, k0_pay3, k0_pay4, k0_pay5]
  exact congrArg _ (scale_of H r)
theorem pay16_at : k0_pay16 v0 v1 v2 v3 C (ix2 r n) = C (ix3 (0 : Fin 1) r n) * s r := by
  pointwise [k0_pay16]
  exact congrArg _ (scale_of H r)
theorem pay31_at : k0_pay31 (k0_pay29 v0) (k0_pay30 v1) v2 v3 C (ix2 r n) = C (ix3 (0 : Fin 1) r n) * s r := by
  pointwise [k0_pay31, k0_pay29, k0_pay30]
  exact congrArg _ (scale_of H r)
theorem pay42_at : k0_pay42 v0 v1 v2 v3 C (ix2 r n) = C (ix3 (0 : Fin 1) r n) * s r := by
  pointwise [k0_pay42]
  exact congrArg _ (scale_of H r)
end

/-! ## The three column shifts -/

section
variable (xm : IVec S512x1 32) (hx : ∀ r : Fin 512, xm (ix2 r (0 : Fin 1)) = BitVec.ofNat 32 (r.val % 64)) (V : FVec Ideal S512x640 .f32)
  (y z : Fin 1) (r : Fin 512) (n : Fin 640)

/-- The pixel on the right, zero past the end of a row. -/
abbrev right : EReal := if h : r.val % 64 = 63 then 0 else V (ix2 (⟨r.val + 1, by omega⟩ : Fin 512) n)
/-- The pixel on the left, zero before the start of a row. -/
abbrev left : EReal := if h : r.val % 64 = 0 then 0 else V (ix2 (⟨r.val - 1, by omega⟩ : Fin 512) n)

/-- The row after, chosen by the mask of the last column. -/
theorem right_of : Scalar.select (IntOp.cmpi .eq (BitVec.ofNat 32 (r.val % 64)) 63#32) (0 : EReal)
    (V (ix2 (⟨(r.val + 512 - 511) % 512, Nat.mod_lt _ (by omega)⟩ : Fin 512) n)) = right V r n := by
  rw [is_last _ (Nat.mod_lt _ (by omega))]
  by_cases h : r.val % 64 = 63
  · rw [if_pos h, right, dif_pos h]
  · rw [if_neg h, right, dif_neg h]
    exact congrArg (fun q => V (ix2 q n)) (Fin.ext (by dsimp only; omega))
/-- The row before, chosen by the mask of the first column. -/
theorem left_of : Scalar.select (IntOp.cmpi .eq (BitVec.ofNat 32 (r.val % 64)) 0#32) (0 : EReal)
    (V (ix2 (⟨(r.val + 512 - 1) % 512, Nat.mod_lt _ (by omega)⟩ : Fin 512) n)) = left V r n := by
  rw [is_zero _ (Nat.mod_lt _ (by omega))]
  by_cases h : r.val % 64 = 0
  · rw [if_pos h, left, dif_pos h]
  · rw [if_neg h, left, dif_neg h]
    exact congrArg (fun q => V (ix2 q n)) (Fin.ext (by dsimp only; omega))

theorem pay11_at : k0_pay11 V (ix4 y z r n) = V (ix2 r n) := by pointwise [k0_pay11]
theorem pay23_at : k0_pay23 V (ix4 y z r n) = V (ix2 r n) := by pointwise [k0_pay23]
theorem pay37_at : k0_pay37 V (ix4 y z r n) = V (ix2 r n) := by pointwise [k0_pay37]
theorem pay47_at : k0_pay47 V (ix4 y z r n) = V (ix2 r n) := by pointwise [k0_pay47]

include hx
theorem pay44_at : k0_pay44 xm V (ix4 y z r n) = right V r n := by
  pointwise [k0_pay44]
  rw [hx]
  exact right_of V r n
theorem pay8_at (c0 c1 c2 : FVec Ideal S128x1 .f32) (c3 : FVec Ideal S1x128 .f32) (X : Vec Ideal S1x512x640 .fp8e5m2) :
    k0_pay8 xm c0 c1 c2 c3 X (ix4 y z r n) = right (k0_pay6 c0 c1 c2 c3 X) r n := by
  unfold k0_pay8
  generalize k0_pay6 c0 c1 c2 c3 X = V
  pointwise []
  rw [hx]
  exact right_of V r n
theorem pay20_at (v0 v1 v2 v3 : Vec Ideal S1x1x1x128 .f32) (X : Vec Ideal S1x512x640 .fp8e5m2) :
    k0_pay20 (k0_pay17 xm v0 v1 v2 v3 X) (ix4 y z r n) = right (k0_pay16 v0 v1 v2 v3 X) r n := by
  unfold k0_pay20 k0_pay17
  generalize k0_pay16 v0 v1 v2 v3 X = V
  pointwise []
  rw [hx]
  exact right_of V r n
theorem pay33_at (c0 c1 : FVec Ideal S128x1 .f32) (v2 v3 : Vec Ideal S1x1x1x128 .f32) (X : Vec Ideal S1x512x640 .fp8e5m2) :
    k0_pay33 xm c0 c1 v2 v3 X (ix4 y z r n) = right (k0_pay31 c0 c1 v2 v3 X) r n := by
  unfold k0_pay33
  generalize k0_pay31 c0 c1 v2 v3 X = V
  pointwise []
  rw [hx]
  exact right_of V r n
theorem pay14_at : k0_pay14 xm V (ix4 y z r n) = left V r n := by
  pointwise [k0_pay14]
  rw [hx]
  exact left_of V r n
theorem pay27_at : k0_pay27 V (k0_pay25 xm) 1#32 (ix4 y z r n) = left V r n := by
  pointwise [k0_pay27, k0_pay25]
  rw [hx]
  exact left_of V r n
theorem pay40_at : k0_pay40 xm V (ix4 y z r n) = left V r n := by
  pointwise [k0_pay40]
  rw [hx]
  exact left_of V r n
theorem pay51_at : k0_pay51 xm V (ix4 y z r n) = left V r n := by
  pointwise [k0_pay51]
  rw [hx]
  exact left_of V r n
end

section
variable (V1 V2 V3 V4 : Vec Ideal S1x1x512x640 .bf16) (A1 A2 A3 A4 : Vec Ideal S1x512x640 .bf16) (W : Vec Ideal S1x1x640x640 .fp8e4m3) (S : Vec Ideal S1x640 .f32)
  (P : Vec Ideal S1x512x640 .f32) (y z : Fin 1) (r : Fin 512) (k c : Fin 640)

/-- An image's part of a tap's weight gradient. -/
abbrev part (A : Vec Ideal S1x512x640 .bf16) (V : Vec Ideal S1x1x512x640 .bf16) (k c : Fin 640) : EReal :=
  ∑ r : Fin 512, A (ix3 (0 : Fin 1) r k) * V (ix4 (0 : Fin 1) (0 : Fin 1) r c)

theorem dw_at : k0_pay70 V4 A4 (k0_pay67 (k0_pay66 V3 A3 (k0_pay63 (k0_pay60 V2) A2 (k0_pay59 V1 A1)))) (ix4 y z k c)
    = part A1 V1 k c + part A2 V2 k c + part A3 V3 k c + part A4 V4 k c := by
  pointwise [k0_pay70, k0_pay68, k0_pay67, k0_pay66, k0_pay64, k0_pay63, k0_pay60, k0_pay59, k0_pay57]

/-- An accumulated block with a tap's product added. -/
abbrev step (V : Vec Ideal S1x1x512x640 .bf16) : EReal :=
  P (ix3 (0 : Fin 1) r c) + ∑ n : Fin 640, V (ix4 (0 : Fin 1) (0 : Fin 1) r n) * (W (ix4 (0 : Fin 1) (0 : Fin 1) c n) * S (ix2 (0 : Fin 1) n))

theorem pay69_at : k0_pay69 (k0_pay56 (k0_pay55 W) S) V4 P (ix3 z r c) = step W S P r c V4 := by
  pointwise [k0_pay69, k0_pay68, k0_pay56, k0_pay55]
theorem pay65_at : k0_pay65 (k0_pay56 (k0_pay55 W) S) V4 P (ix3 z r c) = step W S P r c V4 := by
  pointwise [k0_pay65, k0_pay64, k0_pay56, k0_pay55]
theorem pay62_at : k0_pay62 (k0_pay61 (k0_pay55 W) S V4 P) (ix3 z r c) = step W S P r c V4 := by
  pointwise [k0_pay62, k0_pay61, k0_pay60, k0_pay56, k0_pay55]
theorem pay58_at : k0_pay58 (k0_pay55 W) S V4 P (ix3 z r c) = step W S P r c V4 := by
  pointwise [k0_pay58, k0_pay57, k0_pay56, k0_pay55]
end
end Cert.Bwd1
-- ==== Proof.BwdScratch.lean ====
/-
  The scratch buffers of the backward kernel: what the three stores of each image's shifted gradient leave in the scratch of
  padded gradients, how a tap's rows are read from it, and the four images' stores of the accumulator.
-/
module

public import proofs.«01_k».proof.Proof.BwdSpec
public import proofs.«01_k».proof.Proof.BwdPayloads

@[expose] public section

set_option maxRecDepth 16384

noncomputable section
namespace Cert.Bwd1
open Idealize.ShloMosaic Idealize.ShloMosaic.TcCoe
open Cert.BwdIdeal Cert.BwdIdeal.Gen

/-! ## A shifted row is a row of the padded image -/

section
variable (V : FVec Ideal S512x640 .f32) (f : Fin 640 → Fin 512 → EReal) (hV : ∀ r n, V (ix2 r n) = f n r) (r : Fin 512) (n : Fin 640)
include hV
theorem right_padded : right V r n = padded (f n) (1 + r.val / 64) (r.val % 64 + 2 - 0) := by
  unfold padded
  by_cases h : r.val % 64 = 63
  · rw [right, dif_pos h, dif_neg (by omega)]
  · rw [right, dif_neg h, dif_pos (by omega), hV]
    exact congrArg (f n) (Fin.ext (by dsimp only; omega))
theorem mid_padded : V (ix2 r n) = padded (f n) (1 + r.val / 64) (r.val % 64 + 2 - 1) := by
  unfold padded
  rw [dif_pos (by omega), hV]
  exact congrArg (f n) (Fin.ext (by dsimp only; omega))
theorem left_padded : left V r n = padded (f n) (1 + r.val / 64) (r.val % 64 + 2 - 2) := by
  unfold padded
  by_cases h : r.val % 64 = 0
  · rw [left, dif_pos h, dif_neg (by omega)]
  · rw [left, dif_neg h, dif_pos (by omega), hV]
    exact congrArg (f n) (Fin.ext (by dsimp only; omega))
end

/-! ## The scratch of padded gradients -/

/-- The scratch holds, in plane `k`, every image padded and shifted by `k` columns. -/
def IsPadded (f : Fin 4 → Fin 640 → Fin 512 → EReal) (S : S3x4x640x640.Idx → EReal) : Prop :=
  ∀ (p : Fin 3) (q : Fin 4) (row n : Fin 640), S (ix4 p q row n) = padded (f q n) (row.val / 64) (row.val % 64 + 2 - p.val)

/-- A store of rows `o … o + l - 1` of image `b` in plane `k` gives what is read there … -/
theorem scr_hit (k b o l : ℕ) (hk : k < 3) (hb : b < 4) (ho : o + l ≤ 640) (inb) (w : (⟨4, ![1, 1, l, 640]⟩ : Shape).Idx → EReal)
    (L : List (View.Piece (Elt Ideal) S3x4x640x640 .bf16)) (row n : Fin 640) (h1 : o ≤ row.val) (h2 : row.val < o + l) :
    View.canon (Val := Elt Ideal) (⟨Rect.unit (s := S3x4x640x640) ![k, b, o, 0] ![1, 1, l, 640] inb, w⟩ :: L) (ix4 (⟨k, hk⟩ : Fin 3) (⟨b, hb⟩ : Fin 4) row n)
      = w (ix4 (0 : Fin 1) (0 : Fin 1) (⟨row.val - o, by omega⟩ : Fin l) n) := by
  refine Eq.trans ?_ (View.canon_cons_emb (Val := Elt Ideal) (e := .bf16) (Rect.unit (s := S3x4x640x640) ![k, b, o, 0] ![1, 1, l, 640] inb) w L
    (ix4 (0 : Fin 1) (0 : Fin 1) (⟨row.val - o, by omega⟩ : Fin l) n))
  refine congrArg _ (funext fun a => Fin.ext ?_)
  match a with
  | ⟨0, _⟩ => show k = k + 1 * 0; omega
  | ⟨1, _⟩ => show b = b + 1 * 0; omega
  | ⟨2, _⟩ => show row.val = o + 1 * (row.val - o); omega
  | ⟨3, _⟩ => show n.val = 0 + 1 * n.val; omega

/-- … and leaves everything else as it was. -/
theorem scr_miss (k b o l : ℕ) (inb) (w : (⟨4, ![1, 1, l, 640]⟩ : Shape).Idx → EReal)
    (L : List (View.Piece (Elt Ideal) S3x4x640x640 .bf16)) (p : Fin 3) (q : Fin 4) (row n : Fin 640) (h : p.val ≠ k ∨ q.val ≠ b ∨ row.val < o ∨ o + l ≤ row.val) :
    View.canon (Val := Elt Ideal) (⟨Rect.unit (s := S3x4x640x640) ![k, b, o, 0] ![1, 1, l, 640] inb, w⟩ :: L) (ix4 p q row n)
      = View.canon L (ix4 p q row n) := by
  apply View.canon_cons_of_not_mem
  rcases h with h | h | h
  · exact Rect.not_mem_set_of_axis _ _ 0 k 1 rfl rfl rfl (by show p.val < k ∨ k + 1 ≤ p.val; omega)
  · exact Rect.not_mem_set_of_axis _ _ 1 b 1 rfl rfl rfl (by show q.val < b ∨ b + 1 ≤ q.val; omega)
  · exact Rect.not_mem_set_of_axis _ _ 2 o l rfl rfl rfl h

/-- The three stores that pad an image in a plane: zeros above, the shifted image, zeros below. -/
theorem scr_image (f : Fin 4 → Fin 640 → Fin 512 → EReal) (k b : ℕ) (hk : k < 3) (hb : b < 4) (inb1 inb2 inb3)
    (w1 w3 : (⟨4, ![1, 1, 64, 640]⟩ : Shape).Idx → EReal) (w2 : (⟨4, ![1, 1, 512, 640]⟩ : Shape).Idx → EReal)
    (L : List (View.Piece (Elt Ideal) S3x4x640x640 .bf16)) (h1 : ∀ j, w1 j = 0) (h3 : ∀ j, w3 j = 0)
    (h2 : ∀ r n, w2 (ix4 (0 : Fin 1) (0 : Fin 1) r n) = padded (f ⟨b, hb⟩ n) (1 + r.val / 64) (r.val % 64 + 2 - k))
    (p : Fin 3) (q : Fin 4) (row n : Fin 640)
    (hL : ¬(p.val = k ∧ q.val = b) → View.canon (Val := Elt Ideal) L (ix4 p q row n) = padded (f q n) (row.val / 64) (row.val % 64 + 2 - p.val)) :
    View.canon (Val := Elt Ideal) (⟨Rect.unit (s := S3x4x640x640) ![k, b, 576, 0] ![1, 1, 64, 640] inb3, w3⟩
      :: ⟨Rect.unit (s := S3x4x640x640) ![k, b, 64, 0] ![1, 1, 512, 640] inb2, w2⟩
      :: ⟨Rect.unit (s := S3x4x640x640) ![k, b, 0, 0] ![1, 1, 64, 640] inb1, w1⟩ :: L) (ix4 p q row n)
      = padded (f q n) (row.val / 64) (row.val % 64 + 2 - p.val) := by
  by_cases h : p.val = k ∧ q.val = b
  · obtain ⟨hp, hq⟩ := h
    obtain rfl : p = ⟨k, hk⟩ := Fin.ext hp
    obtain rfl : q = ⟨b, hb⟩ := Fin.ext hq
    by_cases c3 : 576 ≤ row.val
    · rw [scr_hit k b 576 64 hk hb (by omega) inb3 w3 _ row n c3 (by omega), h3, padded, dif_neg (by omega)]
    rw [scr_miss k b 576 64 inb3 w3 _ _ _ row n (by omega)]
    by_cases c2 : 64 ≤ row.val
    · rw [scr_hit k b 64 512 hk hb (by omega) inb2 w2 _ row n c2 (by omega), h2]
      exact congrArg₂ (padded _) (by dsimp only; omega) (by dsimp only; omega)
    rw [scr_miss k b 64 512 inb2 w2 _ _ _ row n (by omega), scr_hit k b 0 64 hk hb (by omega) inb1 w1 _ row n (by omega) (by omega), h1, padded, dif_neg (by omega)]
  · rw [scr_miss k b 576 64 inb3 w3 _ p q row n (by omega), scr_miss k b 64 512 inb2 w2 _ p q row n (by omega),
      scr_miss k b 0 64 inb1 w1 _ p q row n (by omega)]
    exact hL h

/-- A tap's rows of an image, read from the scratch. -/
theorem tap_read (dy : Vec Ideal S4x512x640 .fp8e5m2) (ds : Vec Ideal S4x512 .f32) (S : Vec Ideal S3x4x640x640 .bf16) (hS : IsPadded (grad dy ds) S)
    (off : Fin 4 → ℕ) (inb) (ky kx : Fin 3) (b : Fin 4) (hoff : off = ![kx.val, b.val, (2 - ky.val) * 64, 0]) (r : Fin 512) (n : Fin 640) :
    View.ld S (Rect.unit (s := S3x4x640x640) off ![1, 1, 512, 640] inb) (ix4 (0 : Fin 1) (0 : Fin 1) r n) = gtap dy ds ky kx b r n := by
  subst hoff
  refine Eq.trans (b := S (ix4 kx b (⟨(2 - ky.val) * 64 + r.val, by omega⟩ : Fin 640) n)) ?_ ?_
  · show S _ = S _
    refine congrArg S (funext fun a => Fin.ext ?_)
    match a with
    | ⟨0, _⟩ => show kx.val + 1 * 0 = kx.val; omega
    | ⟨1, _⟩ => show b.val + 1 * 0 = b.val; omega
    | ⟨2, _⟩ => show (2 - ky.val) * 64 + 1 * r.val = (2 - ky.val) * 64 + r.val; omega
    | ⟨3, _⟩ => show 0 + 1 * n.val = n.val; omega
  · rw [hS, gtap]
    exact congrArg₂ (padded _) (by dsimp only; omega) (by dsimp only; omega)

/-! ## Images of an accumulator -/

/-- Image `b` of four. -/
theorem image_at {e : EltTy} (X : Vec Ideal S4x512x640 e) (b : ℕ) (hb : b < 4) (inb) (z : Fin 1) (r : Fin 512) (c : Fin 640) :
    View.ld X (Rect.unit (s := S4x512x640) ![b, 0, 0] ![1, 512, 640] inb) (ix3 z r c) = X (ix3 (⟨b, hb⟩ : Fin 4) r c) := by
  show X _ = X _
  refine congrArg X (funext fun a => Fin.ext ?_)
  match a with
  | ⟨0, _⟩ => show b + 1 * z.val = b; omega
  | ⟨1, _⟩ => show 0 + 1 * r.val = r.val; omega
  | ⟨2, _⟩ => show 0 + 1 * c.val = c.val; omega

/-- One more image stored over a list that holds the others. -/
theorem image_store (T : Fin 4 → Fin 512 → Fin 640 → EReal) (b : ℕ) (hb : b < 4) (inb) (w : (⟨3, ![1, 512, 640]⟩ : Shape).Idx → EReal)
    (L : List (View.Piece (Elt Ideal) S4x512x640 .f32)) (hw : ∀ r c, w (ix3 (0 : Fin 1) r c) = T ⟨b, hb⟩ r c) (q : Fin 4) (r : Fin 512) (c : Fin 640)
    (hL : q.val ≠ b → View.canon (Val := Elt Ideal) L (ix3 q r c) = T q r c) :
    View.canon (Val := Elt Ideal) (⟨Rect.unit (s := S4x512x640) ![b, 0, 0] ![1, 512, 640] inb, w⟩ :: L) (ix3 q r c) = T q r c := by
  by_cases h : q.val = b
  · obtain rfl : q = ⟨b, hb⟩ := Fin.ext h
    rw [← hw r c]
    refine Eq.trans ?_ (View.canon_cons_emb (Val := Elt Ideal) (e := .f32) (Rect.unit (s := S4x512x640) ![b, 0, 0] ![1, 512, 640] inb) w L (ix3 (0 : Fin 1) r c))
    refine congrArg _ (funext fun a => Fin.ext ?_)
    match a with
    | ⟨0, _⟩ => show b = b + 1 * 0; omega
    | ⟨1, _⟩ => show r.val = 0 + 1 * r.val; omega
    | ⟨2, _⟩ => show c.val = 0 + 1 * c.val; omega
  · refine Eq.trans (View.canon_cons_of_not_mem _ _ (Rect.not_mem_set_of_axis _ _ 0 b 1 rfl rfl rfl ?_)) (hL h)
    show q.val < b ∨ b + 1 ≤ q.val
    omega

/-- Row `i` of the scales of image `b`. -/
theorem srow_at (X : Vec Ideal S4x4x1x128 .f32) (b i : ℕ) (hb : b < 4) (hi : i < 4) (inb) (l : Fin 128) :
    View.ld X (Rect.unit (s := S4x4x1x128) ![b, i, 0, 0] ![1, 1, 1, 128] inb) (ix4 (0 : Fin 1) (0 : Fin 1) (0 : Fin 1) l)
      = X (ix4 (⟨b, hb⟩ : Fin 4) (⟨i, hi⟩ : Fin 4) (0 : Fin 1) l) := by
  show X _ = X _
  refine congrArg X (funext fun a => Fin.ext ?_)
  match a with
  | ⟨0, _⟩ => show b + 1 * 0 = b; omega
  | ⟨1, _⟩ => show i + 1 * 0 = i; omega
  | ⟨2, _⟩ => show 0 + 1 * 0 = 0; omega
  | ⟨3, _⟩ => show 0 + 1 * l.val = l.val; omega
end Cert.Bwd1
-- ==== Proof.BwdPoint.lean ====
/-
  One grid point of the backward kernel: given that its blocks hold the right parts of the argument arrays and that its scratch
  holds what the points before left, its weight gradient and its accumulator are those of BwdSpec.
-/
module

public import proofs.«01_k».proof.Proof.BwdScratch

@[expose] public section

set_option maxRecDepth 16384

noncomputable section
namespace Cert.Bwd1
open Idealize.ShloMosaic Idealize.ShloMosaic.TcCoe
open Cert.BwdIdeal Cert.BwdIdeal.Gen Cert.BwdIdeal.Run

section
variable (X0 : Vec Ideal S4x512x640 .fp8e5m2) (X1 : Vec Ideal S4x4x1x128 .f32) (X2 : Vec Ideal S4x512x640 .bf16)
  (X3 : Vec Ideal S1x1x640x640 .fp8e4m3) (X4 : Vec Ideal S1x640 .f32)
  (dy : Vec Ideal S4x512x640 .fp8e5m2) (ds : Vec Ideal S4x512 .f32) (a2 : Vec Ideal S4x512x640 .bf16)
  (w : Vec Ideal S3x3x640x640 .fp8e4m3) (ws : Vec Ideal S640 .f32) (ky kx : Fin 3)

/-- The blocks of a point hold the right parts of the argument arrays. -/
structure Blocks : Prop where
  h0 : ∀ (b : Fin 4) (r : Fin 512) (n : Fin 640), X0 (ix3 b r n) = dy (ix3 b r n)
  h1 : ∀ (b i : Fin 4) (l : Fin 128), X1 (ix4 b i (0 : Fin 1) l) = ds (ix2 b (⟨i.val * 128 + l.val, by omega⟩ : Fin 512))
  h2 : ∀ (b : Fin 4) (r : Fin 512) (k : Fin 640), X2 (ix3 b r k) = a2 (ix3 b r k)
  h3 : ∀ k n : Fin 640, X3 (ix4 (0 : Fin 1) (0 : Fin 1) k n) = w (ix4 ky kx k n)
  h4 : ∀ n : Fin 640, X4 (ix2 (0 : Fin 1) n) = ws (ix1 n)

variable {X0 X1 X2 X3 X4 dy ds a2 w ws ky kx} (H : Blocks X0 X1 X2 X3 X4 dy ds a2 w ws ky kx)
include H

/-- The four rows of scales of an image. -/
theorem scales (b : ℕ) (hb : b < 4) (i0 i1 i2 i3) :
    Scales (View.ld X1 (Rect.unit (s := S4x4x1x128) ![b, 0, 0, 0] ![1, 1, 1, 128] i0)) (View.ld X1 (Rect.unit (s := S4x4x1x128) ![b, 1, 0, 0] ![1, 1, 1, 128] i1))
      (View.ld X1 (Rect.unit (s := S4x4x1x128) ![b, 2, 0, 0] ![1, 1, 1, 128] i2)) (View.ld X1 (Rect.unit (s := S4x4x1x128) ![b, 3, 0, 0] ![1, 1, 1, 128] i3))
      (fun r => ds (ix2 (⟨b, hb⟩ : Fin 4) r)) where
  h0 l := by
    rw [srow_at X1 b 0 hb (by omega), H.h1]
    exact congrArg (fun q => ds (ix2 (⟨b, hb⟩ : Fin 4) q)) (Fin.ext (by show 0 * 128 + l.val = l.val; omega))
  h1 l := by rw [srow_at X1 b 1 hb (by omega), H.h1]; rfl
  h2 l := by rw [srow_at X1 b 2 hb (by omega), H.h1]; rfl
  h3 l := by rw [srow_at X1 b 3 hb (by omega), H.h1]; rfl

/-- The codes of an image's pixel times its scale. -/
theorem grad_of (b : ℕ) (hb : b < 4) (inb) (r : Fin 512) (n : Fin 640) :
    View.ld X0 (Rect.unit (s := S4x512x640) ![b, 0, 0] ![1, 512, 640] inb) (ix3 (0 : Fin 1) r n) * ds (ix2 (⟨b, hb⟩ : Fin 4) r) = grad dy ds ⟨b, hb⟩ n r := by
  rw [image_at X0 b hb, H.h0, grad]

/-- The weight gradient of the point's tap. -/
theorem dw_eq (V1 V2 V3 V4 : Vec Ideal S1x1x512x640 .bf16) (i0 i1 i2 i3)
    (h1 : ∀ r n, V1 (ix4 (0 : Fin 1) (0 : Fin 1) r n) = gtap dy ds ky kx 0 r n) (h2 : ∀ r n, V2 (ix4 (0 : Fin 1) (0 : Fin 1) r n) = gtap dy ds ky kx 1 r n)
    (h3 : ∀ r n, V3 (ix4 (0 : Fin 1) (0 : Fin 1) r n) = gtap dy ds ky kx 2 r n) (h4 : ∀ r n, V4 (ix4 (0 : Fin 1) (0 : Fin 1) r n) = gtap dy ds ky kx 3 r n)
    (y z : Fin 1) (k c : Fin 640) :
    k0_pay70 V4 (View.ld X2 (Rect.unit (s := S4x512x640) ![3, 0, 0] ![1, 512, 640] i3))
      (k0_pay67 (k0_pay66 V3 (View.ld X2 (Rect.unit (s := S4x512x640) ![2, 0, 0] ![1, 512, 640] i2))
        (k0_pay63 (k0_pay60 V2) (View.ld X2 (Rect.unit (s := S4x512x640) ![1, 0, 0] ![1, 512, 640] i1))
          (k0_pay59 V1 (View.ld X2 (Rect.unit (s := S4x512x640) ![0, 0, 0] ![1, 512, 640] i0)))))) (ix4 y z k c) = wgrad dy ds a2 ky kx k c := by
  rw [dw_at, wgrad, Fin.sum_univ_four]
  have im (b : ℕ) (hb : b < 4) (i) (V : Vec Ideal S1x1x512x640 .bf16) (hV : ∀ r n, V (ix4 (0 : Fin 1) (0 : Fin 1) r n) = gtap dy ds ky kx ⟨b, hb⟩ r n) :
      part (View.ld X2 (Rect.unit (s := S4x512x640) ![b, 0, 0] ![1, 512, 640] i)) V k c = ∑ r : Fin 512, a2 (ix3 (⟨b, hb⟩ : Fin 4) r k) * gtap dy ds ky kx ⟨b, hb⟩ r c :=
    Finset.sum_congr rfl fun r _ => by rw [image_at X2 b hb, H.h2, hV]
  exact congrArg₂ (· + ·) (congrArg₂ (· + ·) (congrArg₂ (· + ·) (im 0 (by omega) _ _ h1) (im 1 (by omega) _ _ h2)) (im 2 (by omega) _ _ h3)) (im 3 (by omega) _ _ h4)

/-- What the point's tap makes of an accumulated sum. -/
theorem step_eq (V : Vec Ideal S1x1x512x640 .bf16) (P : Vec Ideal S1x512x640 .f32) (b : Fin 4) (x : EReal) (r : Fin 512) (c : Fin 640)
    (hV : ∀ r n, V (ix4 (0 : Fin 1) (0 : Fin 1) r n) = gtap dy ds ky kx b r n) (hP : P (ix3 (0 : Fin 1) r c) = x) :
    step X3 X4 P r c V = x + dtap dy ds w ws ky kx b r c := by
  rw [step, hP]
  exact congrArg _ (Finset.sum_congr rfl fun n _ => by rw [hV, H.h3, H.h4])

/-- The four images' stores of the accumulator. -/
theorem acc_eq (V1 V2 V3 V4 : Vec Ideal S1x1x512x640 .bf16) (P1 P2 P3 P4 : Vec Ideal S1x512x640 .f32) (i0 i1 i2 i3)
    (L : List (View.Piece (Elt Ideal) S4x512x640 .f32)) (A : Fin 4 → Fin 512 → Fin 640 → EReal)
    (h1 : ∀ r n, V1 (ix4 (0 : Fin 1) (0 : Fin 1) r n) = gtap dy ds ky kx 0 r n) (h2 : ∀ r n, V2 (ix4 (0 : Fin 1) (0 : Fin 1) r n) = gtap dy ds ky kx 1 r n)
    (h3 : ∀ r n, V3 (ix4 (0 : Fin 1) (0 : Fin 1) r n) = gtap dy ds ky kx 2 r n) (h4 : ∀ r n, V4 (ix4 (0 : Fin 1) (0 : Fin 1) r n) = gtap dy ds ky kx 3 r n)
    (g1 : ∀ r c, P1 (ix3 (0 : Fin 1) r c) = A 0 r c) (g2 : ∀ r c, P2 (ix3 (0 : Fin 1) r c) = A 1 r c)
    (g3 : ∀ r c, P3 (ix3 (0 : Fin 1) r c) = A 2 r c) (g4 : ∀ r c, P4 (ix3 (0 : Fin 1) r c) = A 3 r c)
    (q : Fin 4) (r : Fin 512) (c : Fin 640) :
    View.canon (Val := Elt Ideal) (⟨Rect.unit (s := S4x512x640) ![3, 0, 0] ![1, 512, 640] i3, k0_pay69 (k0_pay56 (k0_pay55 X3) X4) V4 P4⟩
      :: ⟨Rect.unit (s := S4x512x640) ![2, 0, 0] ![1, 512, 640] i2, k0_pay65 (k0_pay56 (k0_pay55 X3) X4) V3 P3⟩
      :: ⟨Rect.unit (s := S4x512x640) ![1, 0, 0] ![1, 512, 640] i1, k0_pay62 (k0_pay61 (k0_pay55 X3) X4 V2 P2)⟩
      :: ⟨Rect.unit (s := S4x512x640) ![0, 0, 0] ![1, 512, 640] i0, k0_pay58 (k0_pay55 X3) X4 V1 P1⟩ :: L) (ix3 q r c)
      = A q r c + dtap dy ds w ws ky kx q r c := by
  let T (q : Fin 4) (r : Fin 512) (c : Fin 640) : EReal := A q r c + dtap dy ds w ws ky kx q r c
  refine image_store T 3 (by omega) _ _ _ (fun r c => (pay69_at V4 X3 X4 P4 0 r c).trans (step_eq H V4 P4 3 _ r c h4 (g4 r c))) q r c fun n3 => ?_
  refine image_store T 2 (by omega) _ _ _ (fun r c => (pay65_at V3 X3 X4 P3 0 r c).trans (step_eq H V3 P3 2 _ r c h3 (g3 r c))) q r c fun n2 => ?_
  refine image_store T 1 (by omega) _ _ _ (fun r c => (pay62_at V2 X3 X4 P2 0 r c).trans (step_eq H V2 P2 1 _ r c h2 (g2 r c))) q r c fun n1 => ?_
  refine image_store T 0 (by omega) _ _ _ (fun r c => (pay58_at V1 X3 X4 P1 0 r c).trans (step_eq H V1 P1 0 _ r c h1 (g1 r c))) q r c fun n0 => ?_
  exfalso
  omega
end

/-! ## The blocks of a point -/

section
variable (m : (ℓ : Loc nD τ sig) → Buf (Elt Ideal) ℓ)

theorem idx : ∀ t : Fin cfg0.N, win0_0.index t = ![0, 0, 0] ∧ win0_1.index t = ![0, 0, 0, 0] ∧ win0_2.index t = ![0, 0, 0]
    ∧ win0_3.index t = ![t.val / 3 % 3, t.val % 3, 0, 0] ∧ win0_4.index t = ![0, 0] ∧ win0_5.index t = ![t.val / 3 % 3, t.val % 3, 0, 0]
    ∧ win0_6.index t = ![0, 0, 0] ∧ (grid0.coords t 0).val = t.val :=
  (by decide +kernel : ∀ t : Fin grid0.N, _)

/-- The argument arrays. -/
abbrev A0 (c : Dev nD) : Vec Ideal S4x512x640 .fp8e5m2 := m ((c : Thread nD τ).loc main_arg0)
abbrev A1 (c : Dev nD) : Vec Ideal S4x512 .f32 := m ((c : Thread nD τ).loc main_arg1)
abbrev A2 (c : Dev nD) : Vec Ideal S4x512x640 .bf16 := m ((c : Thread nD τ).loc main_arg2)
abbrev A3 (c : Dev nD) : Vec Ideal S3x3x640x640 .fp8e4m3 := m ((c : Thread nD τ).loc main_arg3)
abbrev A4 (c : Dev nD) : Vec Ideal S640 .f32 := m ((c : Thread nD τ).loc main_arg4)

theorem blocks (c : Dev nD) (t : Fin cfg0.N) :
    Blocks (iblk m c 0 t) (iblk m c 1 t) (iblk m c 2 t) (iblk m c 3 t) (iblk m c 4 t) (A0 m c) (A1 m c) (A2 m c) (A3 m c) (A4 m c) (rowOf t.val) (colOf t.val) where
  h0 b r n := by blk_point [iblk, V, idx t]
  h1 b i l := by
    blk_simp [iblk]
    entry_read
    pointwise []
    blk_point [idx t]
  h2 b r n := by blk_point [iblk, V, idx t]
  h3 k n := by blk_point [iblk, V, idx t]
  h4 n := by
    blk_simp [iblk]
    entry_read
    pointwise []
    blk_point [idx t]

/-- Where the point reads the rows of image `b` from. -/
theorem off_eq (t : Fin cfg0.N) (b : ℕ) : (![(grid0.coords t 0).val % 3, b, (2 - (grid0.coords t 0).val / 3) * 64, 0] : Fin 4 → ℕ)
    = ![(colOf t.val).val, b, (2 - (rowOf t.val).val) * 64, 0] := by
  have h := (idx t).2.2.2.2.2.2.2
  have hN : t.val < 9 := lt_of_lt_of_eq t.isLt (show cfg0.N = 9 from N_0)
  rw [h, show t.val / 3 = t.val / 3 % 3 by omega]
end
end Cert.Bwd1
-- ==== Proof.BwdGrid.lean ====
/-
  The nine grid points of the backward kernel, one after the other: the first fills the scratch of padded gradients, which the
  others keep; every point stores its tap's weight gradient and adds its tap to the accumulator, which the last stores.
-/
module

public import proofs.«01_k».proof.Proof.BwdPoint
public import Idealize.ShloMosaic.Lib.Pipeline.ReadBack

@[expose] public section

set_option maxRecDepth 16384

noncomputable section
namespace Cert.Bwd1
open Idealize.ShloMosaic Idealize.ShloMosaic.TcCoe
open Cert.BwdIdeal Cert.BwdIdeal.Gen Cert.BwdIdeal.Run

variable (m : (ℓ : Loc nD τ sig) → Buf (Elt Ideal) ℓ) (c : Dev nD)

/-- The dequantised gradient of the argument arrays. -/
abbrev gr : Fin 4 → Fin 640 → Fin 512 → EReal := grad (A0 m c) (A1 m c)

/-- What a point leaves in the scratch of padded gradients and in the accumulator. -/
structure After (n : ℕ) (hn : n < cfg0.N) : Prop where
  pad : IsPadded (gr m c) (outsAt0 m c n hn).2.2.1
  acc : ∀ (b : Fin 4) (r : Fin 512) (k : Fin 640), (outsAt0 m c n hn).2.2.2 (ix3 b r k) = dsum (A0 m c) (A1 m c) (A3 m c) (A4 m c) (n + 1) b r k

/-! ## The first point -/

section
variable (t : Fin cfg0.N) (h0 : t.val % 9 = 0) (h1 : ¬t.val % 9 = 8)

theorem zero (b : Ideal .bf16) (hb : b = 0) (h) (j : S1x1x64x640.Idx) : shapeCast S1x1x64x640 (broadcast S64x640 b) h j = 0 := by
  subst hb
  rfl

include h0 h1 in
theorem padA : IsPadded (gr m c) (outsAt0 m c t.val t.isLt).2.2.1 := by
  intro p q row n
  rw [outsAt0_A m c t h0 h1]
  dsimp only
  unfold sout0_A_0
  frame_out
  have H := blocks m c t
  have z : ∀ j, k0_pay7 (F := Ideal) j = 0 := fun j => zero _ (by simp) _ j
  have v3 := fun r n => (pay42_at (View.ld (iblk m c 0 t) (Rect.unit (s := S4x512x640) ![3, 0, 0] ![1, 512, 640] inb_S4x512x640_S1x512x640_3_0_0)) (scales H 3 (by omega) inb_S4x4x1x128_S1x1x1x128_3_0_0_0 inb_S4x4x1x128_S1x1x1x128_3_1_0_0 inb_S4x4x1x128_S1x1x1x128_3_2_0_0 inb_S4x4x1x128_S1x1x1x128_3_3_0_0) r n).trans (grad_of H 3 (by omega) inb_S4x512x640_S1x512x640_3_0_0 r n)
  have v2 := fun r n => (pay31_at (View.ld (iblk m c 0 t) (Rect.unit (s := S4x512x640) ![2, 0, 0] ![1, 512, 640] inb_S4x512x640_S1x512x640_2_0_0)) (scales H 2 (by omega) inb_S4x4x1x128_S1x1x1x128_2_0_0_0 inb_S4x4x1x128_S1x1x1x128_2_1_0_0 inb_S4x4x1x128_S1x1x1x128_2_2_0_0 inb_S4x4x1x128_S1x1x1x128_2_3_0_0) r n).trans (grad_of H 2 (by omega) inb_S4x512x640_S1x512x640_2_0_0 r n)
  have v1 := fun r n => (pay16_at (View.ld (iblk m c 0 t) (Rect.unit (s := S4x512x640) ![1, 0, 0] ![1, 512, 640] inb_S4x512x640_S1x512x640_1_0_0)) (scales H 1 (by omega) inb_S4x4x1x128_S1x1x1x128_1_0_0_0 inb_S4x4x1x128_S1x1x1x128_1_1_0_0 inb_S4x4x1x128_S1x1x1x128_1_2_0_0 inb_S4x4x1x128_S1x1x1x128_1_3_0_0) r n).trans (grad_of H 1 (by omega) inb_S4x512x640_S1x512x640_1_0_0 r n)
  have v0 := fun r n => (pay6_at (View.ld (iblk m c 0 t) (Rect.unit (s := S4x512x640) ![0, 0, 0] ![1, 512, 640] inb_S4x512x640_S1x512x640_0_0_0)) (scales H 0 (by omega) inb_S4x4x1x128_S1x1x1x128_0_0_0_0 inb_S4x4x1x128_S1x1x1x128_0_1_0_0 inb_S4x4x1x128_S1x1x1x128_0_2_0_0 inb_S4x4x1x128_S1x1x1x128_0_3_0_0) r n).trans (grad_of H 0 (by omega) inb_S4x512x640_S1x512x640_0_0_0 r n)
  refine scr_image (gr m c) 2 3 (by omega) (by omega) _ _ _ _ _ _ _ z z (fun r n => (pay51_at _ pay1_at _ 0 0 r n).trans (left_padded _ _ v3 r n)) _ _ _ _ fun n23 => ?_
  refine scr_image (gr m c) 1 3 (by omega) (by omega) _ _ _ _ _ _ _ z z (fun r n => (pay47_at _ 0 0 r n).trans (mid_padded _ _ v3 r n)) _ _ _ _ fun n13 => ?_
  refine scr_image (gr m c) 0 3 (by omega) (by omega) _ _ _ _ _ _ _ z z (fun r n => (pay44_at _ pay1_at _ 0 0 r n).trans (right_padded _ _ v3 r n)) _ _ _ _ fun n03 => ?_
  refine scr_image (gr m c) 2 2 (by omega) (by omega) _ _ _ _ _ _ _ z z (fun r n => (pay40_at _ pay1_at _ 0 0 r n).trans (left_padded _ _ v2 r n)) _ _ _ _ fun n22 => ?_
  refine scr_image (gr m c) 1 2 (by omega) (by omega) _ _ _ _ _ _ _ z z (fun r n => (pay37_at _ 0 0 r n).trans (mid_padded _ _ v2 r n)) _ _ _ _ fun n12 => ?_
  refine scr_image (gr m c) 0 2 (by omega) (by omega) _ _ _ _ _ _ _ z z (fun r n => (pay33_at _ pay1_at 0 0 r n _ _ _ _ _).trans (right_padded _ _ v2 r n)) _ _ _ _ fun n02 => ?_
  refine scr_image (gr m c) 2 1 (by omega) (by omega) _ _ _ _ _ _ _ z z (fun r n => (pay27_at _ pay1_at _ 0 0 r n).trans (left_padded _ _ v1 r n)) _ _ _ _ fun n21 => ?_
  refine scr_image (gr m c) 1 1 (by omega) (by omega) _ _ _ _ _ _ _ z z (fun r n => (pay23_at _ 0 0 r n).trans (mid_padded _ _ v1 r n)) _ _ _ _ fun n11 => ?_
  refine scr_image (gr m c) 0 1 (by omega) (by omega) _ _ _ _ _ _ _ z z (fun r n => (pay20_at _ pay1_at 0 0 r n _ _ _ _ _).trans (right_padded _ _ v1 r n)) _ _ _ _ fun n01 => ?_
  refine scr_image (gr m c) 2 0 (by omega) (by omega) _ _ _ _ _ _ _ z z (fun r n => (pay14_at _ pay1_at _ 0 0 r n).trans (left_padded _ _ v0 r n)) _ _ _ _ fun n20 => ?_
  refine scr_image (gr m c) 1 0 (by omega) (by omega) _ _ _ _ _ _ _ z z (fun r n => (pay11_at _ 0 0 r n).trans (mid_padded _ _ v0 r n)) _ _ _ _ fun n10 => ?_
  refine scr_image (gr m c) 0 0 (by omega) (by omega) _ _ _ _ _ _ _ z z (fun r n => (pay8_at _ pay1_at 0 0 r n _ _ _ _ _).trans (right_padded _ _ v0 r n)) _ _ _ _ fun n00 => ?_
  exfalso
  have := p.isLt
  have := q.isLt
  omega

/-- A tap's rows of image `b`, read at a point from a scratch that holds the padded gradients. -/
theorem rows_at (S : Vec Ideal S3x4x640x640 .bf16) (hS : IsPadded (gr m c) S) (t : Fin cfg0.N) (off : grid0.Coords → Fin 4 → ℕ) (b : Fin 4)
    (hoff : ∀ i : grid0.Coords, off i = ![(i 0).val % 3, b.val, (2 - (i 0).val / 3) * 64, 0]) (inb) (r : Fin 512) (n : Fin 640) :
    View.ld S (Rect.unit (s := S3x4x640x640) (off (grid0.coords t)) ![1, 1, 512, 640] inb) (ix4 (0 : Fin 1) (0 : Fin 1) r n)
      = gtap (A0 m c) (A1 m c) (rowOf t.val) (colOf t.val) b r n :=
  tap_read _ _ S hS _ _ _ _ b ((hoff _).trans (off_eq t b.val)) r n

include h0 h1 in
/-- The first point's pieces for the scratch of padded gradients hold them. -/
theorem padA_list (L : List (View.Piece (Elt Ideal) S3x4x640x640 .bf16))
    (hL : (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).2.2.1 = L) : IsPadded (gr m c) (View.canon L) := by
  have h := padA m c t h0 h1
  rw [outsAt0_A m c t h0 h1] at h
  dsimp only at h
  unfold sout0_A_0 at h
  rw [hL] at h
  subst hL
  intro p q row n
  rw [← h p q row n]
  symm
  frame_out

include h0 h1 in
theorem dwA (y z : Fin 1) (k n : Fin 640) : (outsAt0 m c t.val t.isLt).1 (ix4 y z k n) = wgrad (A0 m c) (A1 m c) (A2 m c) (rowOf t.val) (colOf t.val) k n := by
  rw [outsAt0_A m c t h0 h1]
  dsimp only
  generalize hL : (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).2.2.1 = L
  have hS := padA_list m c t h0 h1 L hL
  unfold out0_A_5
  unfold kernelRun0_A at hL ⊢
  dsimp only at hL ⊢
  simp only [kernelRun0_A.sl.v100, kernelRun0_A.sl.v112, kernelRun0_A.sl.H5_3, kernelRun0_A.sl.v80, kernelRun0_A.sl.v92, kernelRun0_A.sl.H5_2, kernelRun0_A.sl.v60,
    kernelRun0_A.sl.v72, kernelRun0_A.sl.H5_1, kernelRun0_A.sl.v43, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, hL]
  frame_out
  exact dw_eq (blocks m c t) _ _ _ _ _ _ _ _ (rows_at m c _ hS t k0_off1 0 k0_off1_eq _) (rows_at m c _ hS t k0_off2 1 k0_off2_eq _) (rows_at m c _ hS t k0_off3 2 k0_off3_eq _)
    (rows_at m c _ hS t k0_off4 3 k0_off4_eq _) y z k n

/-- A read of an image of the accumulator. -/
theorem acc_read (L : List (View.Piece (Elt Ideal) S4x512x640 .f32)) (b : ℕ) (hb : b < 4) (inb) (z : Fin 1) (r : Fin 512) (k : Fin 640) :
    (View.whole (sig := sig) cc0_scratch1).readCov (Val := Elt Ideal) L (Rect.unit (s := S4x512x640) ![b, 0, 0] ![1, 512, 640] inb).toLoadRect (ix3 z r k)
      = View.canon L (ix3 (⟨b, hb⟩ : Fin 4) r k) := by
  rw [View.readCov_eq_canon']
  exact image_at (View.canon L) b hb inb z r k

/-- The other images' stores leave an image as it was. -/
theorem image_miss (b : ℕ) (inb) (w : (⟨3, ![1, 512, 640]⟩ : Shape).Idx → EReal) (L : List (View.Piece (Elt Ideal) S4x512x640 .f32)) (q : Fin 4) (r : Fin 512) (k : Fin 640)
    (h : q.val ≠ b) :
    View.canon (Val := Elt Ideal) (⟨Rect.unit (s := S4x512x640) ![b, 0, 0] ![1, 512, 640] inb, w⟩ :: L) (ix3 q r k) = View.canon L (ix3 q r k) :=
  View.canon_cons_of_not_mem _ _ (Rect.not_mem_set_of_axis _ _ 0 b 1 rfl rfl rfl (by show q.val < b ∨ b + 1 ≤ q.val; omega))

/-- The accumulator's first store is zero. -/
theorem acc_zero (inb) (q : Fin 4) (r : Fin 512) (k : Fin 640) :
    View.canon (Val := Elt Ideal) (e := .f32) [⟨Rect.unit (s := S4x512x640) ![0, 0, 0] ![4, 512, 640] inb, k0_pay54 (F := Ideal) k0_pay53⟩] (ix3 q r k) = 0 := by
  have z : k0_pay54 (F := Ideal) k0_pay53 (ix3 q r k) = 0 := by pointwise [k0_pay54, k0_pay53]
  rw [← z]
  refine Eq.trans ?_ (View.canon_cons_emb (Val := Elt Ideal) (e := .f32) (Rect.unit (s := S4x512x640) ![0, 0, 0] ![4, 512, 640] inb) (k0_pay54 (F := Ideal) k0_pay53) [] (ix3 q r k))
  refine congrArg _ (funext fun a => Fin.ext ?_)
  match a with
  | ⟨0, _⟩ => show q.val = 0 + 1 * q.val; omega
  | ⟨1, _⟩ => show r.val = 0 + 1 * r.val; omega
  | ⟨2, _⟩ => show k.val = 0 + 1 * k.val; omega

include h0 h1 in
theorem accA (q : Fin 4) (r : Fin 512) (k : Fin 640) :
    (outsAt0 m c t.val t.isLt).2.2.2 (ix3 q r k) = 0 + dtap (A0 m c) (A1 m c) (A3 m c) (A4 m c) (rowOf t.val) (colOf t.val) q r k := by
  rw [outsAt0_A m c t h0 h1]
  dsimp only
  generalize hL : (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)).2.2.1 = L
  have hS := padA_list m c t h0 h1 L hL
  unfold sout0_A_1
  unfold kernelRun0_A at hL ⊢
  dsimp only at hL ⊢
  simp only [kernelRun0_A.sl.v100, kernelRun0_A.sl.v102, kernelRun0_A.sl.HS1_4, kernelRun0_A.sl.v80, kernelRun0_A.sl.v82, kernelRun0_A.sl.HS1_3, kernelRun0_A.sl.v60,
    kernelRun0_A.sl.v62, kernelRun0_A.sl.HS1_2, kernelRun0_A.sl.v43, kernelRun0_A.sl.v45, kernelRun0_A.sl.HS1_1, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, hL]
  frame_out
  refine acc_eq (blocks m c t) _ _ _ _ _ _ _ _ _ _ _ _ _ (fun _ _ _ => 0) (rows_at m c _ hS t k0_off1 0 k0_off1_eq _) (rows_at m c _ hS t k0_off2 1 k0_off2_eq _)
    (rows_at m c _ hS t k0_off3 2 k0_off3_eq _) (rows_at m c _ hS t k0_off4 3 k0_off4_eq _) (fun r k => ?_) (fun r k => ?_) (fun r k => ?_) (fun r k => ?_) q r k
  · rw [acc_read _ 0 (by omega), acc_zero]
  · rw [acc_read _ 1 (by omega), image_miss 0 _ _ _ _ _ _ (by simp), acc_zero]
  · rw [acc_read _ 2 (by omega), image_miss 1 _ _ _ _ _ _ (by simp), image_miss 0 _ _ _ _ _ _ (by simp), acc_zero]
  · rw [acc_read _ 3 (by omega), image_miss 2 _ _ _ _ _ _ (by simp), image_miss 1 _ _ _ _ _ _ (by simp), image_miss 0 _ _ _ _ _ _ (by simp), acc_zero]
end

/-! ## The points after it -/

section
variable (t : Fin cfg0.N) (h0 : ¬t.val % 9 = 0) (h1 : ¬t.val % 9 = 8)
include h0 h1

theorem padB : (outsAt0 m c t.val t.isLt).2.2.1 = (outsAt0 m c (t.val - 1) (Nat.lt_of_le_of_lt (Nat.sub_le _ _) t.isLt)).2.2.1 := by
  rw [outsAt0_B m c t h0 h1]
  dsimp only
  rfl

theorem dwB (hS : IsPadded (gr m c) (outsAt0 m c (t.val - 1) (Nat.lt_of_le_of_lt (Nat.sub_le _ _) t.isLt)).2.2.1) (y z : Fin 1) (k n : Fin 640) :
    (outsAt0 m c t.val t.isLt).1 (ix4 y z k n) = wgrad (A0 m c) (A1 m c) (A2 m c) (rowOf t.val) (colOf t.val) k n := by
  rw [outsAt0_B m c t h0 h1]
  dsimp only
  frame_out
  simp only [read_unread_whole]
  exact dw_eq (blocks m c t) _ _ _ _ _ _ _ _ (rows_at m c _ hS t k0_off1 0 k0_off1_eq _) (rows_at m c _ hS t k0_off2 1 k0_off2_eq _) (rows_at m c _ hS t k0_off3 2 k0_off3_eq _)
    (rows_at m c _ hS t k0_off4 3 k0_off4_eq _) y z k n

theorem accB (hS : IsPadded (gr m c) (outsAt0 m c (t.val - 1) (Nat.lt_of_le_of_lt (Nat.sub_le _ _) t.isLt)).2.2.1) (q : Fin 4) (r : Fin 512) (k : Fin 640) :
    (outsAt0 m c t.val t.isLt).2.2.2 (ix3 q r k) = (outsAt0 m c (t.val - 1) (Nat.lt_of_le_of_lt (Nat.sub_le _ _) t.isLt)).2.2.2 (ix3 q r k)
      + dtap (A0 m c) (A1 m c) (A3 m c) (A4 m c) (rowOf t.val) (colOf t.val) q r k := by
  rw [outsAt0_B m c t h0 h1]
  dsimp only
  frame_out
  simp only [read_unread_whole]
  exact acc_eq (blocks m c t) _ _ _ _ _ _ _ _ _ _ _ _ _ (fun q r k => (outsAt0 m c (t.val - 1) (Nat.lt_of_le_of_lt (Nat.sub_le _ _) t.isLt)).2.2.2 (ix3 q r k))
    (rows_at m c _ hS t k0_off1 0 k0_off1_eq _) (rows_at m c _ hS t k0_off2 1 k0_off2_eq _) (rows_at m c _ hS t k0_off3 2 k0_off3_eq _) (rows_at m c _ hS t k0_off4 3 k0_off4_eq _)
    (fun r k => image_at _ 0 (by omega) _ 0 r k) (fun r k => image_at _ 1 (by omega) _ 0 r k) (fun r k => image_at _ 2 (by omega) _ 0 r k) (fun r k => image_at _ 3 (by omega) _ 0 r k) q r k
end

/-! ## The last point -/

section
variable (t : Fin cfg0.N) (h0 : ¬t.val % 9 = 0) (h1 : t.val % 9 = 8)
include h0 h1

theorem padC : (outsAt0 m c t.val t.isLt).2.2.1 = (outsAt0 m c (t.val - 1) (Nat.lt_of_le_of_lt (Nat.sub_le _ _) t.isLt)).2.2.1 := by
  rw [outsAt0_C m c t h0 h1]
  dsimp only
  rfl

theorem dwC (hS : IsPadded (gr m c) (outsAt0 m c (t.val - 1) (Nat.lt_of_le_of_lt (Nat.sub_le _ _) t.isLt)).2.2.1) (y z : Fin 1) (k n : Fin 640) :
    (outsAt0 m c t.val t.isLt).1 (ix4 y z k n) = wgrad (A0 m c) (A1 m c) (A2 m c) (rowOf t.val) (colOf t.val) k n := by
  rw [outsAt0_C m c t h0 h1]
  dsimp only
  frame_out
  simp only [read_unread_whole]
  exact dw_eq (blocks m c t) _ _ _ _ _ _ _ _ (rows_at m c _ hS t k0_off1 0 k0_off1_eq _) (rows_at m c _ hS t k0_off2 1 k0_off2_eq _) (rows_at m c _ hS t k0_off3 2 k0_off3_eq _)
    (rows_at m c _ hS t k0_off4 3 k0_off4_eq _) y z k n

theorem accC (hS : IsPadded (gr m c) (outsAt0 m c (t.val - 1) (Nat.lt_of_le_of_lt (Nat.sub_le _ _) t.isLt)).2.2.1) (q : Fin 4) (r : Fin 512) (k : Fin 640) :
    (outsAt0 m c t.val t.isLt).2.2.2 (ix3 q r k) = (outsAt0 m c (t.val - 1) (Nat.lt_of_le_of_lt (Nat.sub_le _ _) t.isLt)).2.2.2 (ix3 q r k)
      + dtap (A0 m c) (A1 m c) (A3 m c) (A4 m c) (rowOf t.val) (colOf t.val) q r k := by
  rw [outsAt0_C m c t h0 h1]
  dsimp only
  frame_out
  simp only [read_unread_whole]
  exact acc_eq (blocks m c t) _ _ _ _ _ _ _ _ _ _ _ _ _ (fun q r k => (outsAt0 m c (t.val - 1) (Nat.lt_of_le_of_lt (Nat.sub_le _ _) t.isLt)).2.2.2 (ix3 q r k))
    (rows_at m c _ hS t k0_off1 0 k0_off1_eq _) (rows_at m c _ hS t k0_off2 1 k0_off2_eq _) (rows_at m c _ hS t k0_off3 2 k0_off3_eq _) (rows_at m c _ hS t k0_off4 3 k0_off4_eq _)
    (fun r k => image_at _ 0 (by omega) _ 0 r k) (fun r k => image_at _ 1 (by omega) _ 0 r k) (fun r k => image_at _ 2 (by omega) _ 0 r k) (fun r k => image_at _ 3 (by omega) _ 0 r k) q r k

omit h0 h1 in
theorem pay71_at (P : Vec Ideal S4x512x640 .f32) (q : Fin 4) (r : Fin 512) (k : Fin 640) : k0_pay71 P (ix3 q r k) = P (ix3 q r k) := by
  pointwise [k0_pay71]

theorem daC (q : Fin 4) (r : Fin 512) (k : Fin 640) : (outsAt0 m c t.val t.isLt).2.1 (ix3 q r k) = (outsAt0 m c t.val t.isLt).2.2.2 (ix3 q r k) := by
  rw [outsAt0_C m c t h0 h1]
  dsimp only
  frame_out
  rw [pay71_at, View.readCov_eq_canon']
  refine congrArg _ (funext fun a => Fin.ext ?_)
  match a with
  | ⟨0, _⟩ => show 0 + 1 * q.val = q.val; omega
  | ⟨1, _⟩ => show 0 + 1 * r.val = r.val; omega
  | ⟨2, _⟩ => show 0 + 1 * k.val = k.val; omega
end

/-! ## All points -/

theorem after : ∀ (n : ℕ) (hn : n < cfg0.N), After m c n hn
  | 0, hn =>
    { pad := padA m c ⟨0, hn⟩ rfl (by show ¬0 % 9 = 8; omega)
      acc := fun b r k => (accA m c ⟨0, hn⟩ rfl (by show ¬0 % 9 = 8; omega) b r k).trans (by rw [dsum, Finset.sum_range_succ, Finset.sum_range_zero]) }
  | n + 1, hn => by
    have H := after n (Nat.lt_of_succ_lt hn)
    have hN : n + 1 < 9 := lt_of_lt_of_eq hn (show cfg0.N = 9 from N_0)
    have h0 : ¬(n + 1) % 9 = 0 := by omega
    by_cases h1 : (n + 1) % 9 = 8
    · exact
        { pad := (padC m c ⟨n + 1, hn⟩ h0 h1).symm ▸ H.pad
          acc := fun b r k => (accC m c ⟨n + 1, hn⟩ h0 h1 H.pad b r k).trans ((congrArg (· + _) (H.acc b r k)).trans (Finset.sum_range_succ _ _).symm) }
    · exact
        { pad := (padB m c ⟨n + 1, hn⟩ h0 h1).symm ▸ H.pad
          acc := fun b r k => (accB m c ⟨n + 1, hn⟩ h0 h1 H.pad b r k).trans ((congrArg (· + _) (H.acc b r k)).trans (Finset.sum_range_succ _ _).symm) }

/-- Every point stores its tap's weight gradient … -/
theorem dw_all (t : Fin cfg0.N) (y z : Fin 1) (k n : Fin 640) :
    (outsAt0 m c t.val t.isLt).1 (ix4 y z k n) = wgrad (A0 m c) (A1 m c) (A2 m c) (rowOf t.val) (colOf t.val) k n := by
  have hN : t.val < 9 := lt_of_lt_of_eq t.isLt (show cfg0.N = 9 from N_0)
  by_cases h0 : t.val % 9 = 0
  · exact dwA m c t h0 (by omega) y z k n
  · have hp := (after m c (t.val - 1) (Nat.lt_of_le_of_lt (Nat.sub_le _ _) t.isLt)).pad
    by_cases h1 : t.val % 9 = 8
    · exact dwC m c t h0 h1 hp y z k n
    · exact dwB m c t h0 h1 hp y z k n

/-- … and the last the sum of the nine taps. -/
theorem da_last (t : Fin cfg0.N) (h1 : t.val % 9 = 8) (q : Fin 4) (r : Fin 512) (k : Fin 640) :
    (outsAt0 m c t.val t.isLt).2.1 (ix3 q r k) = dsum (A0 m c) (A1 m c) (A3 m c) (A4 m c) 9 q r k := by
  have hN : t.val < 9 := lt_of_lt_of_eq t.isLt (show cfg0.N = 9 from N_0)
  rw [daC m c t (by omega) h1, (after m c t.val t.isLt).acc, show t.val + 1 = 9 by omega]

end Cert.Bwd1
-- ==== Proof.BwdRef.lean ====
/-
  The backward reference, read at an index: its padded images, the weight gradient of each of its nine taps, and its sum of the
  nine taps of the input gradient.
-/
module

public import proofs.«01_k».proof.Proof.BwdSpec

@[expose] public section

set_option maxRecDepth 16384

noncomputable section
namespace Cert.BwdRef1
open Idealize.ShloMosaic Idealize.ShloMosaic.TcCoe Cert.Bwd1
open Cert.BwdRefIdeal Cert.BwdRefIdeal.Gen

theorem word_zero : (((0#32 : BitVec 32).toInt : ℝ) : EReal) = 0 := by simp

/-- Row `r` of image `b` of the flattened batch. -/
abbrev flat (b : Fin 4) (r : Fin 512) : Fin 2048 := ⟨b.val * 512 + r.val, by omega⟩

section
variable (dy : Vec Ideal S4x512x640 .fp8e5m2) (ds : Vec Ideal S4x512 .f32) (a2 : Vec Ideal S4x512x640 .bf16)
  (w : Vec Ideal S3x3x640x640 .fp8e4m3) (ws : Vec Ideal S640 .f32) (b : Fin 4) (r : Fin 512)

theorem act_padded (yy : Fin 10) (xx : Fin 66) (k : Fin 640) : k0_pay6 a2 (ix4 b yy xx k) = padded (fun q => a2 (ix3 b q k)) yy.val xx.val := by
  unfold padded
  pointwise [k0_pay6]
  simp only [word_zero]
  split_ifs
  all_goals first | rfl | (exfalso; omega) | rw [dif_pos (by omega)]

theorem grad_padded (yy : Fin 10) (xx : Fin 66) (n : Fin 640) : k0_pay7 dy ds (ix4 b yy xx n) = padded (grad dy ds b n) yy.val xx.val := by
  unfold padded grad
  pointwise [k0_pay7, k0_pay4]
  simp only [word_zero]
  split_ifs
  all_goals first | rfl | (exfalso; omega) | rw [dif_pos (by omega)]

theorem weight_at (ky kx : Fin 3) (k n : Fin 640) : k0_pay5 w ws (ix4 ky kx k n) = w (ix4 ky kx k n) * ws (ix1 n) := by
  pointwise [k0_pay5]

theorem grad_flat (R : Fin 2048) (n : Fin 640) : k0_pay8 dy ds (ix2 R n) = grad dy ds ⟨R.val / 512, by omega⟩ n ⟨R.val % 512, by omega⟩ := by
  unfold grad
  pointwise [k0_pay8, k0_pay4]
end

/-! ## The weight gradient -/

section
variable (dy : Vec Ideal S4x512x640 .fp8e5m2) (ds : Vec Ideal S4x512 .f32) (a2 : Vec Ideal S4x512x640 .bf16)

/-- A product of the shifted activation and the gradient over the flattened batch. -/
theorem product_eq (ky kx : Fin 3) (k c : Fin 640) (I : Fin 2048 → Fin 4) (Y : Fin 2048 → Fin 10) (X : Fin 2048 → Fin 66) (hI : ∀ R, (I R).val = R.val / 512)
    (hY : ∀ R, (Y R).val = ky.val + R.val / 64 % 8) (hX : ∀ R, (X R).val = kx.val + R.val % 64) :
    (∑ R : Fin 2048, k0_pay6 a2 (ix4 (I R) (Y R) (X R) k) * k0_pay8 dy ds (ix2 R c)) = wgrad dy ds a2 ky kx k c := by
  rw [wgrad_eq]
  refine (Fin.sum_mul_add_fin 4 512 (fun R : Fin 2048 => k0_pay6 a2 (ix4 (I R) (Y R) (X R) k) * k0_pay8 dy ds (ix2 R c))).symm.trans ?_
  refine Finset.sum_congr rfl fun b _ => Finset.sum_congr rfl fun r _ => ?_
  have e (R : Fin 2048) (hR : R.val = b.val * 512 + r.val) : k0_pay6 a2 (ix4 (I R) (Y R) (X R) k) * k0_pay8 dy ds (ix2 R c)
      = padded (fun q => a2 (ix3 b q k)) (ky.val + r.val / 64) (kx.val + r.val % 64) * grad dy ds b c r := by
    have hb : I R = b := Fin.ext (by rw [hI]; omega)
    have hb' : (⟨R.val / 512, by omega⟩ : Fin 4) = b := Fin.ext (by dsimp only; omega)
    have hr' : (⟨R.val % 512, by omega⟩ : Fin 512) = r := Fin.ext (by dsimp only; omega)
    rw [act_padded, grad_flat, hb, hb', hr', hY, hX]
    exact congrArg (· * _) (congrArg₂ (padded _) (by omega) (by omega))
  exact e _ rfl

/-- The tap that a store holds. -/
theorem tap_store (T : Fin 3 → Fin 3 → Fin 640 → Fin 640 → EReal) (ky kx : ℕ) (hy : ky < 3) (hx : kx < 3) (inb) (v : (⟨4, ![1, 1, 640, 640]⟩ : Shape).Idx → EReal)
    (L : List (View.Piece (Elt Ideal) S3x3x640x640 .f32)) (hv : ∀ k c, v (ix4 (0 : Fin 1) (0 : Fin 1) k c) = T ⟨ky, hy⟩ ⟨kx, hx⟩ k c) (p q : Fin 3) (k c : Fin 640)
    (hL : ¬(p.val = ky ∧ q.val = kx) → View.canon (Val := Elt Ideal) L (ix4 p q k c) = T p q k c) :
    View.canon (Val := Elt Ideal) (⟨Rect.unit (s := S3x3x640x640) ![ky, kx, 0, 0] ![1, 1, 640, 640] inb, v⟩ :: L) (ix4 p q k c) = T p q k c := by
  by_cases h : p.val = ky ∧ q.val = kx
  · obtain ⟨hp, hq⟩ := h
    obtain rfl : p = ⟨ky, hy⟩ := Fin.ext hp
    obtain rfl : q = ⟨kx, hx⟩ := Fin.ext hq
    rw [← hv k c]
    refine Eq.trans ?_ (View.canon_cons_emb (Val := Elt Ideal) (e := .f32) (Rect.unit (s := S3x3x640x640) ![ky, kx, 0, 0] ![1, 1, 640, 640] inb) v L
      (ix4 (0 : Fin 1) (0 : Fin 1) k c))
    refine congrArg _ (funext fun a => Fin.ext ?_)
    match a with
    | ⟨0, _⟩ => show ky = ky + 1 * 0; omega
    | ⟨1, _⟩ => show kx = kx + 1 * 0; omega
    | ⟨2, _⟩ => show k.val = 0 + 1 * k.val; omega
    | ⟨3, _⟩ => show c.val = 0 + 1 * c.val; omega
  · refine Eq.trans (View.canon_cons_of_not_mem _ _ ?_) (hL h)
    by_cases hp : p.val = ky
    · exact Rect.not_mem_set_of_axis _ _ 1 kx 1 rfl rfl rfl (by show q.val < kx ∨ kx + 1 ≤ q.val; omega)
    · exact Rect.not_mem_set_of_axis _ _ 0 ky 1 rfl rfl rfl (by show p.val < ky ∨ ky + 1 ≤ p.val; omega)

theorem ref_dw (a3 : Vec Ideal S3x3x640x640 .fp8e4m3) (a4 : Vec Ideal S640 .f32) (p q : Fin 3) (k c : Fin 640) :
    Value.G5 dy ds a2 a3 a4 (ix4 p q k c) = wgrad dy ds a2 p q k c := by
  have hA : k0_pay23 dy ds a2 a3 a4 = k0_pay6 a2 := by
    unfold k0_pay23
    rw [View.ld_unit_zero (S := S4x512x640) Value.hz0 _ a2]
  have hG : k0_pay25 dy ds a2 a3 a4 = k0_pay8 dy ds := by
    unfold k0_pay25
    rw [View.ld_unit_zero (S := S4x512x640) Value.hz0 _ dy, View.ld_unit_zero (S := S4x512) Value.hz1 _ ds]
  rw [Value.G5, hA, hG]
  have P := product_eq dy ds a2
  have s00 (k c) : k0_pay11 (k0_pay10 dy ds a2) (ix4 (0 : Fin 1) (0 : Fin 1) k c) = wgrad dy ds a2 0 0 k c := by
    unfold k0_pay11 k0_pay10
    generalize hA : k0_pay6 a2 = A at P ⊢
    generalize hG : k0_pay8 dy ds = G at P ⊢
    pointwise []
    exact P 0 0 k c _ _ _ (fun R => rfl) (fun R => (Nat.zero_add _).symm) (fun R => (Nat.zero_add _).symm)
  generalize hA' : k0_pay6 a2 = A at P ⊢
  generalize hG' : k0_pay8 dy ds = G at P ⊢
  have s01 (k c) : k0_pay12 A G (ix4 (0 : Fin 1) (0 : Fin 1) k c) = wgrad dy ds a2 0 1 k c := by
    pointwise [k0_pay12]
    exact P 0 1 k c _ _ _ (fun R => rfl) (fun R => (Nat.zero_add _).symm) (fun R => rfl)
  have s02 (k c) : k0_pay13 A G (ix4 (0 : Fin 1) (0 : Fin 1) k c) = wgrad dy ds a2 0 2 k c := by
    pointwise [k0_pay13]
    exact P 0 2 k c _ _ _ (fun R => rfl) (fun R => (Nat.zero_add _).symm) (fun R => rfl)
  have s10 (k c) : k0_pay16 (k0_pay15 A G) (ix4 (0 : Fin 1) (0 : Fin 1) k c) = wgrad dy ds a2 1 0 k c := by
    pointwise [k0_pay16, k0_pay15]
    exact P 1 0 k c _ _ _ (fun R => rfl) (fun R => rfl) (fun R => (Nat.zero_add _).symm)
  have s11 (k c) : k0_pay17 A G (ix4 (0 : Fin 1) (0 : Fin 1) k c) = wgrad dy ds a2 1 1 k c := by
    pointwise [k0_pay17]
    exact P 1 1 k c _ _ _ (fun R => rfl) (fun R => rfl) (fun R => rfl)
  have s12 (k c) : k0_pay18 A G (ix4 (0 : Fin 1) (0 : Fin 1) k c) = wgrad dy ds a2 1 2 k c := by
    pointwise [k0_pay18]
    exact P 1 2 k c _ _ _ (fun R => rfl) (fun R => rfl) (fun R => rfl)
  have s20 (k c) : k0_pay20 A G (ix4 (0 : Fin 1) (0 : Fin 1) k c) = wgrad dy ds a2 2 0 k c := by
    pointwise [k0_pay20]
    exact P 2 0 k c _ _ _ (fun R => rfl) (fun R => rfl) (fun R => (Nat.zero_add _).symm)
  have s21 (k c) : k0_pay1 A G (ix4 (0 : Fin 1) (0 : Fin 1) k c) = wgrad dy ds a2 2 1 k c := by
    pointwise [k0_pay1]
    exact P 2 1 k c _ _ _ (fun R => rfl) (fun R => rfl) (fun R => rfl)
  have s22 (k c) : k0_pay2 A G (ix4 (0 : Fin 1) (0 : Fin 1) k c) = wgrad dy ds a2 2 2 k c := by
    pointwise [k0_pay2]
    exact P 2 2 k c _ _ _ (fun R => rfl) (fun R => rfl) (fun R => rfl)
  refine tap_store (wgrad dy ds a2) 2 2 (by omega) (by omega) _ _ _ s22 p q k c fun n22 => ?_
  refine tap_store (wgrad dy ds a2) 2 1 (by omega) (by omega) _ _ _ s21 p q k c fun n21 => ?_
  refine tap_store (wgrad dy ds a2) 2 0 (by omega) (by omega) _ _ _ s20 p q k c fun n20 => ?_
  refine tap_store (wgrad dy ds a2) 1 2 (by omega) (by omega) _ _ _ s12 p q k c fun n12 => ?_
  refine tap_store (wgrad dy ds a2) 1 1 (by omega) (by omega) _ _ _ s11 p q k c fun n11 => ?_
  refine tap_store (wgrad dy ds a2) 1 0 (by omega) (by omega) _ _ _ s10 p q k c fun n10 => ?_
  refine tap_store (wgrad dy ds a2) 0 2 (by omega) (by omega) _ _ _ s02 p q k c fun n02 => ?_
  refine tap_store (wgrad dy ds a2) 0 1 (by omega) (by omega) _ _ _ s01 p q k c fun n01 => ?_
  refine tap_store (wgrad dy ds a2) 0 0 (by omega) (by omega) _ _ _ s00 p q k c fun n00 => ?_
  exfalso
  have := p.isLt
  have := q.isLt
  omega
end

/-! ## The input gradient -/

section
variable (dy : Vec Ideal S4x512x640 .fp8e5m2) (ds : Vec Ideal S4x512 .f32) (a2 : Vec Ideal S4x512x640 .bf16)
  (w : Vec Ideal S3x3x640x640 .fp8e4m3) (ws : Vec Ideal S640 .f32) (b : Fin 4) (r : Fin 512) (c : Fin 640)

/-- A product of the shifted gradient and a tap's weights. -/
theorem tap_eq (ky kx : Fin 3) (b' : Fin 4) (y : Fin 10) (x : Fin 66) (hb : b'.val = b.val) (hy : y.val = 2 - ky.val + r.val / 64) (hx : x.val = 2 - kx.val + r.val % 64) :
    (∑ n : Fin 640, k0_pay7 dy ds (ix4 b' y x n) * k0_pay5 w ws (ix4 ky kx c n)) = dtap dy ds w ws ky kx b r c := by
  obtain rfl : b' = b := Fin.ext hb
  refine Finset.sum_congr rfl fun n _ => ?_
  rw [grad_padded, weight_at, hy, hx, gtap]

theorem ref_da : Value.G6 dy ds a2 w ws (ix3 b r c) = dsum dy ds w ws 9 b r c := by
  have hW : k0_pay22 dy ds a2 w ws = k0_pay5 w ws := by
    unfold k0_pay22
    rw [View.ld_unit_zero (S := S3x3x640x640) Value.hz3 _ w, View.ld_unit_zero (S := S640) Value.hz4 _ ws]
  have hG : k0_pay24 dy ds a2 w ws = k0_pay7 dy ds := by
    unfold k0_pay24
    rw [View.ld_unit_zero (S := S4x512x640) Value.hz0 _ dy, View.ld_unit_zero (S := S4x512) Value.hz1 _ ds]
  rw [Value.G6, hW, hG, ← dsum_eq]
  have P := tap_eq dy ds w ws b r c
  generalize k0_pay5 w ws = W at P ⊢
  generalize k0_pay7 dy ds = G at P ⊢
  have s0 (p : FVec Ideal S2048x640 .f32) : k0_pay14 W G p (ix2 (flat b r) c)
      = p (ix2 (flat b r) c) + dtap dy ds w ws 2 2 b r c + dtap dy ds w ws 2 1 b r c + dtap dy ds w ws 2 0 b r c := by
    pointwise [k0_pay14]
    refine congrArg₂ (· + ·) (congrArg₂ (· + ·) (congrArg₂ (· + ·) rfl (P 2 2 _ _ _ ?_ ?_ ?_)) (P 2 1 _ _ _ ?_ ?_ ?_)) (P 2 0 _ _ _ ?_ ?_ ?_)
    all_goals first | rfl | omega | (dsimp only; omega)
  have s1 (p : FVec Ideal S2048x640 .f32) : k0_pay19 W G p (ix2 (flat b r) c)
      = p (ix2 (flat b r) c) + dtap dy ds w ws 1 2 b r c + dtap dy ds w ws 1 1 b r c + dtap dy ds w ws 1 0 b r c := by
    pointwise [k0_pay19]
    refine congrArg₂ (· + ·) (congrArg₂ (· + ·) (congrArg₂ (· + ·) rfl (P 1 2 _ _ _ ?_ ?_ ?_)) (P 1 1 _ _ _ ?_ ?_ ?_)) (P 1 0 _ _ _ ?_ ?_ ?_)
    all_goals first | rfl | omega | (dsimp only; omega)
  have s2 (p : FVec Ideal S2048x640 .f32) : k0_pay3 W G p (k0_pay21 G) (ix3 b r c)
      = p (ix2 (flat b r) c) + dtap dy ds w ws 0 2 b r c + dtap dy ds w ws 0 1 b r c + dtap dy ds w ws 0 0 b r c := by
    pointwise [k0_pay3, k0_pay21]
    refine congrArg₂ (· + ·) (congrArg₂ (· + ·) (congrArg₂ (· + ·) rfl (P 0 2 _ _ _ ?_ ?_ ?_)) (P 0 1 _ _ _ ?_ ?_ ?_)) (P 0 0 _ _ _ ?_ ?_ ?_)
    all_goals first | rfl | omega | (dsimp only; omega)
  rw [s2, s1, s0]
  have z : k0_pay9 (F := Ideal) (ix2 (flat b r) c) = 0 := by pointwise [k0_pay9]
  rw [z]
end
end Cert.BwdRef1
-- ==== Proof.BwdFinal.lean ====
/-
  The backward kernel's two result arrays are the reference's of the argument arrays.
-/
module

public import proofs.«01_k».proof.Proof.BwdGrid
public import proofs.«01_k».proof.Proof.BwdRef

@[expose] public section

set_option maxRecDepth 16384

noncomputable section
namespace Cert.Bwd1
open Idealize.ShloMosaic Idealize.ShloMosaic.TcCoe
open Cert.BwdIdeal Cert.BwdIdeal.Gen Cert.BwdIdeal.Run

variable (m : (ℓ : Loc nD τ sig) → Buf (Elt Ideal) ℓ)

/-- The reference's results of the argument arrays. -/
abbrev Dw (c : Dev nD) : Vec Ideal S3x3x640x640 .f32 := Cert.BwdRefIdeal.Value.G5 (A0 m c) (A1 m c) (A2 m c) (A3 m c) (A4 m c)
abbrev Da (c : Dev nD) : Vec Ideal S4x512x640 .bf16 := Cert.BwdRefIdeal.Value.G6 (A0 m c) (A1 m c) (A2 m c) (A3 m c) (A4 m c)

theorem point5 (c : Dev nD) (t : Fin cfg0.N) (y : S1x1x640x640.Idx) (j : S3x3x640x640.Idx)
    (h0 : (j 0 : ℕ) = t.val / 3 % 3 + y 0) (h1 : (j 1 : ℕ) = t.val % 3 + y 1) (h2 : (j 2 : ℕ) = y 2) (h3 : (j 3 : ℕ) = y 3) :
    (dats m 0 c).after 5 t y = Dw m c j := by
  rw [after0_5]
  idx_vars y
  idx_vars j
  obtain rfl : j0 = rowOf t.val := Fin.ext (by have : (y0 : ℕ) < 1 := y0.isLt; have : (j0 : ℕ) = t.val / 3 % 3 + y0 := h0; show j0.val = t.val / 3 % 3; omega)
  obtain rfl : j1 = colOf t.val := Fin.ext (by have : (y1 : ℕ) < 1 := y1.isLt; have : (j1 : ℕ) = t.val % 3 + y1 := h1; show j1.val = t.val % 3; omega)
  obtain rfl : j2 = y2 := Fin.ext h2
  obtain rfl : j3 = y3 := Fin.ext h3
  exact (dw_all m c t y0 y1 j2 j3).trans (Cert.BwdRef1.ref_dw (A0 m c) (A1 m c) (A2 m c) (A3 m c) (A4 m c) _ _ j2 j3).symm

theorem point6 (c : Dev nD) (t : Fin cfg0.N) (ht : t.val % 9 = 8) (y j : S4x512x640.Idx)
    (h0 : (j 0 : ℕ) = y 0) (h1 : (j 1 : ℕ) = y 1) (h2 : (j 2 : ℕ) = y 2) :
    (dats m 0 c).after 6 t y = Da m c j := by
  rw [after0_6]
  idx_vars y
  idx_vars j
  obtain rfl : j0 = y0 := Fin.ext h0
  obtain rfl : j1 = y1 := Fin.ext h1
  obtain rfl : j2 = y2 := Fin.ext h2
  exact (da_last m c t ht j0 j1 j2).trans (Cert.BwdRef1.ref_da (A0 m c) (A1 m c) (A2 m c) (A3 m c) (A4 m c) j0 j1 j2).symm

theorem final5 (c : Dev nD) : (dats m 0 c).arrAt 5 (cfgs 0).N = Dw m c := by
  refine (dats m 0 c).arrAt_eq_of_covers 5 _ (by decide +kernel) fun t _ y => ?_
  blk_simp
  refine point5 m c t y _ ?_ ?_ ?_ ?_
  all_goals (blk_simp [idx t] <;> try omega)

theorem flush6 : ∀ t : Fin cfg0.N, win0_6.flush t = true → t.val % 9 = 8 := (by decide +kernel : ∀ t : Fin grid0.N, _)

theorem final6 (c : Dev nD) : (dats m 0 c).arrAt 6 (cfgs 0).N = Da m c := by
  refine (dats m 0 c).arrAt_eq_of_covers 6 _ (by decide +kernel) fun t hf y => ?_
  have ht := flush6 t hf
  blk_simp
  refine point6 m c t ht y _ ?_ ?_ ?_
  all_goals (blk_simp [idx t] <;> try omega)

/-- The kernel's results, as its run names them, are the reference's. -/
theorem value5 (c : Dev nD) : Cert.BwdIdeal.Value.G5 m c = Dw m c := (Cert.BwdIdeal.Value.final5 m c).symm.trans (final5 m c)
theorem value6 (c : Dev nD) : Cert.BwdIdeal.Value.G6 m c = Da m c := (Cert.BwdIdeal.Value.final6 m c).symm.trans (final6 m c)
end Cert.Bwd1
-- ==== Proof.lean ====
module

public import proofs.«01_k».proof.Defs
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.QuantIdeal.Value
public import proofs.«01_k».proof.Proof.Gen.QuantRefIdeal
public import proofs.«01_k».proof.Proof.Gen.QuantRefIdeal.Skeleton
public import proofs.«01_k».proof.Proof.Gen.QuantRefIdeal.Launch
public import proofs.«01_k».proof.Proof.Gen.QuantRefIdeal.Points
public import proofs.«01_k».proof.Proof.Gen.QuantRefIdeal.Frame
public import proofs.«01_k».proof.Proof.QuantRefRun
public import proofs.«01_k».proof.Proof.QuantFinal
public import proofs.«01_k».proof.Proof.ConvFinal
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Skeleton
public import proofs.«01_k».proof.Proof.Gen.ConvRefIdeal.Launch
public import proofs.«01_k».proof.Proof.Gen.ConvRefIdeal.Points
public import proofs.«01_k».proof.Proof.Gen.ConvRefIdeal.Frame
public import proofs.«01_k».proof.Proof.Gen.ConvRefIdeal.Value
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.BwdRefIdeal
public import proofs.«01_k».proof.Proof.Gen.BwdRefIdeal.Skeleton
public import proofs.«01_k».proof.Proof.Gen.BwdRefIdeal.Launch
public import proofs.«01_k».proof.Proof.Gen.BwdRefIdeal.Points
public import proofs.«01_k».proof.Proof.Gen.BwdRefIdeal.Frame
public import proofs.«01_k».proof.Proof.Gen.BwdRefIdeal.Value
public import proofs.«01_k».proof.Proof.BwdFrame
public import proofs.«01_k».proof.Proof.BwdIdealFrame
public import proofs.«01_k».proof.Proof.BwdIdealValue
public import proofs.«01_k».proof.Proof.BwdFinal
public import Idealize.ShloMosaic.Adequacy
public import Idealize.ShloMosaic.Init

@[expose] public section

noncomputable section

namespace Cert.Proof

open Idealize.ShloMosaic Idealize.SL.Sem

section Quant
open Cert.QuantRefIdeal Cert.QuantRefIdeal.Gen

/-- The codes the reference's run leaves are its payload's, each load of a whole array being that array. -/
theorem quant_codes (a0 : Vec Ideal S4x512x1920 .i8) (a1 : Vec Ideal S4x512 .f32) (a2 a3 : Vec Ideal S4x32 .f32) (a4 a5 : Vec Ideal S1920 .f32) :
    RunValue.G6 a0 a1 a2 a3 a4 a5
      = k0_pay2 (k0_pay4 a0 a1 a2 a3 a4 a5) (k0_pay6 a0 a1 a2 a3 a4 a5) (k0_pay7 a0 a1 a2 a3 a4 a5) k0_pay8 := by
  unfold RunValue.G6 k0_pay9 k0_pay10 k0_pay11
  rw [View.ld_unit_zero (S := S4x512x1920) RunValue.hz0 _ a0, View.ld_unit_zero (S := S4x512) RunValue.hz1 _ a1,
    View.ld_unit_zero (S := S4x32) RunValue.hz1 _ a2, View.ld_unit_zero (S := S4x32) RunValue.hz1 _ a3,
    View.ld_unit_zero (S := S1920) RunValue.hz4 _ a4, View.ld_unit_zero (S := S1920) RunValue.hz4 _ a5]

/-- So are the scales. -/
theorem quant_scales (a0 : Vec Ideal S4x512x1920 .i8) (a1 : Vec Ideal S4x512 .f32) (a2 a3 : Vec Ideal S4x32 .f32) (a4 a5 : Vec Ideal S1920 .f32) :
    RunValue.G7 a0 a1 a2 a3 a4 a5 = k0_pay3 (k0_pay6 a0 a1 a2 a3 a4 a5) (k0_pay7 a0 a1 a2 a3 a4 a5) k0_pay8 := by
  unfold RunValue.G7 k0_pay9 k0_pay10 k0_pay11
  rw [View.ld_unit_zero (S := S4x512x1920) RunValue.hz0 _ a0, View.ld_unit_zero (S := S4x512) RunValue.hz1 _ a1,
    View.ld_unit_zero (S := S4x32) RunValue.hz1 _ a2, View.ld_unit_zero (S := S4x32) RunValue.hz1 _ a3,
    View.ld_unit_zero (S := S1920) RunValue.hz4 _ a4, View.ld_unit_zero (S := S1920) RunValue.hz4 _ a5]
end Quant

/-- The quantising call and its reference leave the same codes and scales. -/
theorem quant : Cert.algebraic_QuantIdeal_QuantRefIdeal (hQuantIdeal := Cert.QuantIdeal.Gen.facts) (hQuantRefIdeal := Cert.QuantRefIdeal.Gen.facts) :=
  fun m ρ m' ρ' _ hag =>
    ⟨fun c => Cert.Quant1.Codes m c, fun c => Cert.Quant1.Scales m c,
     (θ_run _ _ _).mono (fun _ h c => ⟨(h c).1.trans (Cert.Quant1.final6 m c), (h c).2.1.trans (Cert.Quant1.final7 m c), (h c).2.2⟩) (Cert.QuantIdeal.Value.run_blocks m ρ),
     (θ_run _ _ _).mono (fun _ h c => ⟨(h c).1.trans (by
        rw [(hag c).1, (hag c).2.1, (hag c).2.2.1, (hag c).2.2.2.1, (hag c).2.2.2.2.1, (hag c).2.2.2.2.2]; exact quant_codes _ _ _ _ _ _),
      (h c).2.1.trans (by
        rw [(hag c).1, (hag c).2.1, (hag c).2.2.1, (hag c).2.2.2.1, (hag c).2.2.2.2.1, (hag c).2.2.2.2.2]; exact quant_scales _ _ _ _ _ _),
      (h c).2.2⟩) (Cert.QuantRefIdeal.RunValue.run m' ρ')⟩

/-- The convolution call and its reference leave the same codes, scales and activation. -/
theorem conv : Cert.algebraic_ConvIdeal_ConvRefIdeal (hConvIdeal := Cert.ConvIdeal.Gen.facts) (hConvRefIdeal := Cert.ConvRefIdeal.Gen.facts) :=
  fun m ρ m' ρ' _ hag =>
    ⟨fun c => Cert.Conv1.Codes m c, fun c => Cert.Conv1.Scales m c, fun c => Cert.Conv1.Acts m c,
     (θ_run _ _ _).mono (fun _ h c => ⟨(h c).1.trans (Cert.Conv1.final10 m c), (h c).2.1.trans (Cert.Conv1.final11 m c), (h c).2.2.1.trans (Cert.Conv1.final12 m c), (h c).2.2.2⟩) (Cert.ConvIdeal.Value.run_blocks m ρ),
     (θ_run _ _ _).mono (fun _ h c => ⟨(h c).1.trans (by
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]),
      (h c).2.1.trans (by
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]),
      (h c).2.2.1.trans (by
        rw [(hag c).1, (hag c).2.1, (hag c).2.2.1, (hag c).2.2.2.1, (hag c).2.2.2.2.1, (hag c).2.2.2.2.2.1, (hag c).2.2.2.2.2.2.1, (hag c).2.2.2.2.2.2.2.1, (hag c).2.2.2.2.2.2.2.2.1, (hag c).2.2.2.2.2.2.2.2.2]),
      (h c).2.2.2⟩) (Cert.ConvRefIdeal.Value.run m' ρ')⟩

/-- The backward call and its reference leave the same weight gradient and input gradient. -/
theorem bwd : Cert.algebraic_BwdIdeal_BwdRefIdeal (hBwdIdeal := Cert.BwdIdeal.Gen.facts) (hBwdRefIdeal := Cert.BwdRefIdeal.Gen.facts) :=
  fun m ρ m' ρ' _ hag =>
    ⟨fun c => Cert.Bwd1.Dw m c, fun c => Cert.Bwd1.Da m c,
     (θ_run _ _ _).mono (fun _ h c => ⟨(h c).1.trans (Cert.Bwd1.value5 m c), (h c).2.1.trans (Cert.Bwd1.value6 m c), (h c).2.2⟩) (Cert.BwdIdeal.Value.run m ρ),
     (θ_run _ _ _).mono (fun _ h c => ⟨(h c).1.trans (by
        rw [(hag c).1, (hag c).2.1, (hag c).2.2.1, (hag c).2.2.2.1, (hag c).2.2.2.2]),
      (h c).2.1.trans (by
        rw [(hag c).1, (hag c).2.1, (hag c).2.2.1, (hag c).2.2.2.1, (hag c).2.2.2.2]),
      (h c).2.2⟩) (Cert.BwdRefIdeal.Value.run m' ρ')⟩

theorem claim : Cert.Claim :=
  ⟨Cert.Quant.Gen.facts, Cert.QuantIdeal.Gen.facts, Cert.QuantRefIdeal.Gen.facts, Cert.Conv.Gen.facts, Cert.ConvIdeal.Gen.facts, Cert.ConvRefIdeal.Gen.facts,
   Cert.Bwd.Gen.facts, Cert.BwdIdeal.Gen.facts, Cert.BwdRefIdeal.Gen.facts,
   fun m ρ _ => Cert.Quant.Gen.frame m ρ,
   fun m ρ _ => Cert.QuantIdeal.Gen.frame m ρ,
   fun m ρ _ => Cert.QuantRefIdeal.Gen.frame m ρ,
   fun m ρ _ => Cert.Conv.Gen.frame m ρ,
   fun m ρ _ => Cert.ConvIdeal.Gen.frame m ρ,
   fun m ρ _ => Cert.ConvRefIdeal.Gen.frame m ρ,
   fun m ρ _ => Cert.Bwd.Run.frame m ρ,
   fun m ρ _ => Cert.BwdIdeal.Run.frame m ρ,
   fun m ρ _ => Cert.BwdRefIdeal.Gen.frame m ρ,
   trivial, quant, trivial, conv, trivial, bwd⟩

end Cert.Proof

end
